-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_banks_chosen [hPre_banks_chosen : Cert.Pre_banks_chosen.Facts] (m : (ℓ : Loc Cert.KernelIdeal.nD Cert.KernelIdeal.τ Cert.KernelIdeal.sig) → Buf (Elt Ideal) ℓ) : Prop :=
  ∀ c : Dev Cert.KernelIdeal.nD,
    (Cert.Pre_banks_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_banks_chosen [hPre_banks_chosen : Cert.Pre_banks_chosen.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_banks_chosen.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_banks_chosen [hKernelIdeal : Cert.KernelIdeal.Facts] [hPre_banks_chosen : Cert.Pre_banks_chosen.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_banks_chosen m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_banks_chosen [hReferenceIdeal : Cert.ReferenceIdeal.Facts] [hPre_banks_chosen : Cert.Pre_banks_chosen.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_banks_chosen m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_banks_chosen [hKernelIdeal : Cert.KernelIdeal.Facts] [hReferenceIdeal : Cert.ReferenceIdeal.Facts] [hPre_banks_chosen : Cert.Pre_banks_chosen.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_banks_chosen m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_banks_chosen : Cert.Pre_banks_chosen.Facts),
    quiescent_Kernel (hKernel := hKernel)
    ∧ quiescent_KernelIdeal (hKernelIdeal := hKernelIdeal)
    ∧ quiescent_KernelIdeal_pre_banks_chosen (hKernelIdeal := hKernelIdeal) (hPre_banks_chosen := hPre_banks_chosen)
    ∧ quiescent_ReferenceIdeal (hReferenceIdeal := hReferenceIdeal)
    ∧ quiescent_ReferenceIdeal_pre_banks_chosen (hReferenceIdeal := hReferenceIdeal) (hPre_banks_chosen := hPre_banks_chosen)
    ∧ preserves_Kernel_KernelIdeal
    ∧ algebraic_KernelIdeal_ReferenceIdeal_pre_banks_chosen (hKernelIdeal := hKernelIdeal) (hReferenceIdeal := hReferenceIdeal) (hPre_banks_chosen := hPre_banks_chosen)
-- ==== Pre_banks_chosen.lean ====
abbrev S256x1024 : Shape := ⟨2, ![256, 1024]⟩
abbrev S256x16x64x64 : Shape := ⟨4, ![256, 16, 64, 64]⟩
abbrev S256x16x64 : Shape := ⟨3, ![256, 16, 64]⟩
abbrev S256x2 : Shape := ⟨2, ![256, 2]⟩
abbrev S4x1024x1024 : Shape := ⟨3, ![4, 1024, 1024]⟩
abbrev S4x1024 : Shape := ⟨2, ![4, 1024]⟩
abbrev S64 : Shape := ⟨1, ![64]⟩
abbrev S64x64 : Shape := ⟨2, ![64, 64]⟩
abbrev S_ : Shape := ⟨0, ![]⟩

class Facts : Prop where
  bcast_S_S256x2 : S_.BroadcastsInDim S256x2 (![] : Fin 0 → Fin S256x2.rank)

variable [Facts]

def fn {F : FTy → Type} [FloatOps F] (main_arg0 : FVec F S256x1024 .f32) (main_arg1 : FVec F S256x16x64x64 .f32) (main_arg2 : FVec F S256x16x64 .f32) (main_arg3 : IVec S256x2 32) (main_arg4 : FVec F S256x2 .f32) (main_arg5 : FVec F S4x1024x1024 .f32) (main_arg6 : FVec F S4x1024 .f32) (main_arg7 : FVec F S4x1024x1024 .f32) (main_arg8 : FVec F S4x1024 .f32) (main_arg9 : FVec F S4x1024x1024 .f32) (main_arg10 : FVec F S4x1024 .f32) (main_arg11 : FVec F S4x1024x1024 .f32) (main_arg12 : FVec F S4x1024 .f32) (main_arg13 : FVec F S64 .f32) (main_arg14 : FVec F S64x64 .f32) : IVec S256x2 1 :=
  let main_c : IVec S_ 32 := constantI S_ 32 0#32
  let main_v0 : IVec S256x2 32 := broadcastInDim S256x2 ![] bcast_S_S256x2 main_c
  let main_v1 : IVec S256x2 1 := cmpi .sge main_arg3 main_v0
  let main_c_0 : IVec S_ 32 := constantI S_ 32 4#32
  let main_v2 : IVec S256x2 32 := broadcastInDim S256x2 ![] bcast_S_S256x2 main_c_0
  let main_v3 : IVec S256x2 1 := cmpi .slt main_arg3 main_v2
  let main_v4 : IVec S256x2 1 := andi main_v1 main_v3
  let main_cst : FVec F S_ .f32 := constant S_ .f32 0x00000000#32
  let main_v5 : FVec F S256x2 .f32 := broadcastInDim S256x2 ![] bcast_S_S256x2 main_cst
  let main_v6 : IVec S256x2 1 := cmpf .oge main_arg4 main_v5
  let main_v7 : IVec S256x2 1 := andi main_v4 main_v6
  main_v7
-- ==== Kernel.lean ====
abbrev S256x1024 : Shape := ⟨2, ![256, 1024]⟩
abbrev S256x16x64x64 : Shape := ⟨4, ![256, 16, 64, 64]⟩
abbrev S256x16x64 : Shape := ⟨3, ![256, 16, 64]⟩
abbrev S256x2 : Shape := ⟨2, ![256, 2]⟩
abbrev S4x1024x1024 : Shape := ⟨3, ![4, 1024, 1024]⟩
abbrev S4x1024 : Shape := ⟨2, ![4, 1024]⟩
abbrev S64 : Shape := ⟨1, ![64]⟩
abbrev S64x64 : Shape := ⟨2, ![64, 64]⟩
abbrev S256x8x8192 : Shape := ⟨3, ![256, 8, 8192]⟩
abbrev S_ : Shape := ⟨0, ![]⟩
abbrev S64x1 : Shape := ⟨2, ![64, 1]⟩
abbrev S1x4096 : Shape := ⟨2, ![1, 4096]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S64x64x64 : Shape := ⟨3, ![64, 64, 64]⟩
abbrev S64x4096 : Shape := ⟨2, ![64, 4096]⟩
abbrev S1x64x1x64 : Shape := ⟨4, ![1, 64, 1, 64]⟩
abbrev S1x64x64x64 : Shape := ⟨4, ![1, 64, 64, 64]⟩
abbrev S4x1x1024 : Shape := ⟨3, ![4, 1, 1024]⟩
abbrev S1x1024x256 : Shape := ⟨3, ![1, 1024, 256]⟩
abbrev S256x4096 : Shape := ⟨2, ![256, 4096]⟩
abbrev S3x256x8192 : Shape := ⟨3, ![3, 256, 8192]⟩
abbrev S3 : Shape := ⟨1, ![3]⟩
abbrev S1 : Shape := ⟨1, ![1]⟩
abbrev S1x256x8192 : Shape := ⟨3, ![1, 256, 8192]⟩
abbrev S256x8192 : Shape := ⟨2, ![256, 8192]⟩
abbrev S256x1x8192 : Shape := ⟨3, ![256, 1, 8192]⟩
abbrev S256x1 : Shape := ⟨2, ![256, 1]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩
abbrev S256x128 : Shape := ⟨2, ![256, 128]⟩
abbrev S256x64 : Shape := ⟨2, ![256, 64]⟩
abbrev S1x128 : Shape := ⟨2, ![1, 128]⟩

abbrev nBuf : Space → Nat
  | .hbm => 59
  | .vmem => 23
  | .smem => 0
  | _ => 0

abbrev bufTy : (tb : Table) → Fin (tcTables nBuf tb) → BufTy
  | .hbm, ⟨0, _⟩ => ⟨S256x1024, .f32⟩
  | .hbm, ⟨1, _⟩ => ⟨S256x16x64x64, .f32⟩
  | .hbm, ⟨2, _⟩ => ⟨S256x16x64, .f32⟩
  | .hbm, ⟨3, _⟩ => ⟨S256x2, .i32⟩
  | .hbm, ⟨4, _⟩ => ⟨S256x2, .f32⟩
  | .hbm, ⟨5, _⟩ => ⟨S4x1024x1024, .f32⟩
  | .hbm, ⟨6, _⟩ => ⟨S4x1024, .f32⟩
  | .hbm, ⟨7, _⟩ => ⟨S4x1024x1024, .f32⟩
  | .hbm, ⟨8, _⟩ => ⟨S4x1024, .f32⟩
  | .hbm, ⟨9, _⟩ => ⟨S4x1024x1024, .f32⟩
  | .hbm, ⟨10, _⟩ => ⟨S4x1024, .f32⟩
  | .hbm, ⟨11, _⟩ => ⟨S4x1024x1024, .f32⟩
  | .hbm, ⟨12, _⟩ => ⟨S4x1024, .f32⟩
  | .hbm, ⟨13, _⟩ => ⟨S64, .f32⟩
  | .hbm, ⟨14, _⟩ => ⟨S64x64, .f32⟩
  | .hbm, ⟨15, _⟩ => ⟨S256x8x8192, .f32⟩
  | .hbm, ⟨16, _⟩ => ⟨S256x1024, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x1, .f32⟩
  | .hbm, ⟨34, _⟩ => ⟨S64x64, .f32⟩
  | .hbm, ⟨35, _⟩ => ⟨S64x64, .f32⟩
  | .hbm, ⟨36, _⟩ => ⟨S1x4096, .f32⟩
  | .hbm, ⟨37, _⟩ => ⟨S1x64, .f32⟩
  | .hbm, ⟨38, _⟩ => ⟨S16x64, .f32⟩
  | .hbm, ⟨39, _⟩ => ⟨S1024, .f32⟩
  | .hbm, ⟨40, _⟩ => ⟨S1x1024, .f32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S64x64, .bf16⟩
  | .hbm, ⟨48, _⟩ => ⟨S64x64x64, .bf16⟩
  | .hbm, ⟨49, _⟩ => ⟨S64x4096, .bf16⟩
  | .hbm, ⟨50, _⟩ => ⟨S1x64x1x64, .bf16⟩
  | .hbm, ⟨51, _⟩ => ⟨S1x64x64x64, .bf16⟩
  | .hbm, ⟨52, _⟩ => ⟨S64x4096, .bf16⟩
  | .hbm, ⟨53, _⟩ => ⟨S4x1x1024, .f32⟩
  | .hbm, ⟨54, _⟩ => ⟨S4x1x1024, .f32⟩
  | .hbm, ⟨55, _⟩ => ⟨S4x1x1024, .f32⟩
  | .hbm, ⟨56, _⟩ => ⟨S4x1x1024, .f32⟩
  | .hbm, ⟨57, _⟩ => ⟨S256x8x8192, .f32⟩
  | .hbm, ⟨58, _⟩ => ⟨S256x1024, .f32⟩
  | .local _ .vmem, ⟨0, _⟩ => ⟨S256x1024, .f32⟩
  | .local _ .vmem, ⟨1, _⟩ => ⟨S256x2, .i32⟩
  | .local _ .vmem, ⟨2, _⟩ => ⟨S256x2, .f32⟩
  | .local _ .vmem, ⟨3, _⟩ => ⟨S256x1024, .f32⟩
  | .local _ .vmem, ⟨4, _⟩ => ⟨S1x1024, .f32⟩
  | .local _ .vmem, ⟨5, _⟩ => ⟨S1x4096, .f32⟩
  | .local _ .vmem, ⟨6, _⟩ => ⟨S64x4096, .bf16⟩
  | .local _ .vmem, ⟨7, _⟩ => ⟨S64x4096, .bf16⟩
  | .local _ .vmem, ⟨8, _⟩ => ⟨S1x1024x256, .f32⟩
  | .local _ .vmem, ⟨9, _⟩ => ⟨S1x1024x256, .f32⟩
  | .local _ .vmem, ⟨10, _⟩ => ⟨S4x1x1024, .f32⟩
  | .local _ .vmem, ⟨11, _⟩ => ⟨S1x1024x256, .f32⟩
  | .local _ .vmem, ⟨12, _⟩ => ⟨S1x1024x256, .f32⟩
  | .local _ .vmem, ⟨13, _⟩ => ⟨S4x1x1024, .f32⟩
  | .local _ .vmem, ⟨14, _⟩ => ⟨S1x1024x256, .f32⟩
  | .local _ .vmem, ⟨15, _⟩ => ⟨S1x1024x256, .f32⟩
  | .local _ .vmem, ⟨16, _⟩ => ⟨S4x1x1024, .f32⟩
  | .local _ .vmem, ⟨17, _⟩ => ⟨S1x1024x256, .f32⟩
  | .local _ .vmem, ⟨18, _⟩ => ⟨S1x1024x256, .f32⟩
  | .local _ .vmem, ⟨19, _⟩ => ⟨S4x1x1024, .f32⟩
  | .local _ .vmem, ⟨20, _⟩ => ⟨S256x1024, .f32⟩
  | .local _ .vmem, ⟨21, _⟩ => ⟨S256x4096, .f32⟩
  | .local _ .vmem, ⟨22, _⟩ => ⟨S3x256x8192, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem16_0 : DmaSem sig := 20

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  v36
def k0_off1 (i : grid0.Coords) : Fin 3 → Nat :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v59 : Index := Scalar.indexCast v35
  let c0_29 : Index := 0#32
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v60 : Index := Scalar.indexCast v37
  ![v59.toNat, 0, v60.toNat]
def k0_cond3 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_31 : BitVec 32 := 0#32
  let v68 : BitVec 1 := Scalar.cmpi .eq v35 c0_i32_31
  let v69 : BitVec 32 := Scalar.extui v68
  let c0_i32_32 : BitVec 32 := 0#32
  let v70 : BitVec 1 := Scalar.cmpi .ne v69 c0_i32_32
  v70

def k0_off2 (i : grid0.Coords) : Fin 2 → Nat :=
  let c0_62 : Index := 0#32
  let c0_i32_30 : BitVec 32 := 0#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v67 : BitVec 32 := Scalar.addi c0_i32_30 v37
  let v131 : Index := Scalar.indexCast v67
  ![0, v131.toNat]
def k0_cond4 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_33 : BitVec 32 := 0#32
  let v71 : BitVec 1 := Scalar.cmpi .ne v35 c0_i32_33
  let v72 : BitVec 32 := Scalar.extui v71
  let c0_i32_34 : BitVec 32 := 0#32
  let v73 : BitVec 1 := Scalar.cmpi .ne v72 c0_i32_34
  v73

def k0_off3 (i : grid0.Coords) : Fin 2 → Nat :=
  let c0_62 : Index := 0#32
  let c0_i32_30 : BitVec 32 := 0#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v67 : BitVec 32 := Scalar.addi c0_i32_30 v37
  let v131 : Index := Scalar.indexCast v67
  ![0, v131.toNat]
def k0_cond5 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_40 : BitVec 32 := 0#32
  let v87 : BitVec 1 := Scalar.cmpi .eq v35 c0_i32_40
  let v88 : BitVec 32 := Scalar.extui v87
  let c0_i32_41 : BitVec 32 := 0#32
  let v89 : BitVec 1 := Scalar.cmpi .ne v88 c0_i32_41
  v89

def k0_off4 (i : grid0.Coords) : Fin 2 → Nat :=
  let c0_62 : Index := 0#32
  let c1024_i32 : BitVec 32 := 1024#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v86 : BitVec 32 := Scalar.addi c1024_i32 v37
  let v131 : Index := Scalar.indexCast v86
  ![0, v131.toNat]
def k0_cond6 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_42 : BitVec 32 := 0#32
  let v90 : BitVec 1 := Scalar.cmpi .ne v35 c0_i32_42
  let v91 : BitVec 32 := Scalar.extui v90
  let c0_i32_43 : BitVec 32 := 0#32
  let v92 : BitVec 1 := Scalar.cmpi .ne v91 c0_i32_43
  v92

def k0_off5 (i : grid0.Coords) : Fin 2 → Nat :=
  let c0_62 : Index := 0#32
  let c1024_i32 : BitVec 32 := 1024#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v86 : BitVec 32 := Scalar.addi c1024_i32 v37
  let v131 : Index := Scalar.indexCast v86
  ![0, v131.toNat]
def k0_cond7 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_49 : BitVec 32 := 0#32
  let v106 : BitVec 1 := Scalar.cmpi .eq v35 c0_i32_49
  let v107 : BitVec 32 := Scalar.extui v106
  let c0_i32_50 : BitVec 32 := 0#32
  let v108 : BitVec 1 := Scalar.cmpi .ne v107 c0_i32_50
  v108

def k0_off6 (i : grid0.Coords) : Fin 2 → Nat :=
  let c0_62 : Index := 0#32
  let c2048_i32 : BitVec 32 := 2048#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v105 : BitVec 32 := Scalar.addi c2048_i32 v37
  let v131 : Index := Scalar.indexCast v105
  ![0, v131.toNat]
def k0_cond8 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_51 : BitVec 32 := 0#32
  let v109 : BitVec 1 := Scalar.cmpi .ne v35 c0_i32_51
  let v110 : BitVec 32 := Scalar.extui v109
  let c0_i32_52 : BitVec 32 := 0#32
  let v111 : BitVec 1 := Scalar.cmpi .ne v110 c0_i32_52
  v111

def k0_off7 (i : grid0.Coords) : Fin 2 → Nat :=
  let c0_62 : Index := 0#32
  let c2048_i32 : BitVec 32 := 2048#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v105 : BitVec 32 := Scalar.addi c2048_i32 v37
  let v131 : Index := Scalar.indexCast v105
  ![0, v131.toNat]
def k0_cond9 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_58 : BitVec 32 := 0#32
  let v125 : BitVec 1 := Scalar.cmpi .eq v35 c0_i32_58
  let v126 : BitVec 32 := Scalar.extui v125
  let c0_i32_59 : BitVec 32 := 0#32
  let v127 : BitVec 1 := Scalar.cmpi .ne v126 c0_i32_59
  v127

def k0_off8 (i : grid0.Coords) : Fin 2 → Nat :=
  let c0_62 : Index := 0#32
  let c3072_i32 : BitVec 32 := 3072#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v124 : BitVec 32 := Scalar.addi c3072_i32 v37
  let v131 : Index := Scalar.indexCast v124
  ![0, v131.toNat]
def k0_cond10 (i : grid0.Coords) : BitVec 1 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_60 : BitVec 32 := 0#32
  let v128 : BitVec 1 := Scalar.cmpi .ne v35 c0_i32_60
  let v129 : BitVec 32 := Scalar.extui v128
  let c0_i32_61 : BitVec 32 := 0#32
  let v130 : BitVec 1 := Scalar.cmpi .ne v129 c0_i32_61
  v130

def k0_off9 (i : grid0.Coords) : Fin 2 → Nat :=
  let c0_62 : Index := 0#32
  let c3072_i32 : BitVec 32 := 3072#32
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi arg0 c4_i32
  let c0_i32_8 : BitVec 32 := 0#32
  let v22 : BitVec 1 := Scalar.cmpi .ne v21 c0_i32_8
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let c256_i32 : BitVec 32 := 256#32
  let v36 : BitVec 32 := Scalar.muli v25 c256_i32
  let v37 : BitVec 32 := v36
  let v124 : BitVec 32 := Scalar.addi c3072_i32 v37
  let v131 : Index := Scalar.indexCast v124
  ![0, v131.toNat]
def k0_cond11 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def k0_off10 (i : grid0.Coords) : Fin 1 → Nat :=
  let arg0 : BitVec 32 := BitVec.ofNat 32 (i 0).val
  let c16_i32_4 : BitVec 32 := 16#32
  let v9 : BitVec 32 := Scalar.subi arg0 c16_i32_4
  let c3_i32_9 : BitVec 32 := 3#32
  let c0_i32_10 : BitVec 32 := 0#32
  let v20 : BitVec 1 := Scalar.cmpi .eq c3_i32_9 c0_i32_10
  let c1_i32_11 : BitVec 32 := 1#32
  let v21 : BitVec 32 := Scalar.select v20 c1_i32_11 c3_i32_9
  let v22 : BitVec 32 := Scalar.remsi v9 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  ![v29.toNat]
def k0_off11 (i : grid0.Coords) : Fin 3 → Nat :=
  let arg0 : BitVec 32 := BitVec.ofNat 32 (i 0).val
  let c16_i32_4 : BitVec 32 := 16#32
  let v9 : BitVec 32 := Scalar.subi arg0 c16_i32_4
  let c3_i32 : BitVec 32 := 3#32
  let c0_i32_5 : BitVec 32 := 0#32
  let v10 : BitVec 1 := Scalar.cmpi .eq c3_i32 c0_i32_5
  let c1_i32 : BitVec 32 := 1#32
  let v11 : BitVec 32 := Scalar.select v10 c1_i32 c3_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_15 : BitVec 32 := 0#32
  let c0_i32_16 : BitVec 32 := 0#32
  ![v19.toNat, 0, 0]
def k0_off12 (i : grid0.Coords) : Fin 3 → Nat :=
  let c0_i32_17 : BitVec 32 := 0#32
  let arg0 : BitVec 32 := BitVec.ofNat 32 (i 0).val
  let c16_i32_4 : BitVec 32 := 16#32
  let v9 : BitVec 32 := Scalar.subi arg0 c16_i32_4
  let c0_i32_18 : BitVec 32 := 0#32
  ![0, v9.toNat, 0]
def k0_mult2 (i : grid0.Coords) : BitVec 32 :=
  let arg0 : BitVec 32 := BitVec.ofNat 32 (i 0).val
  let c16_i32_4 : BitVec 32 := 16#32
  let v9 : BitVec 32 := Scalar.subi arg0 c16_i32_4
  let c2_i32 : BitVec 32 := 2#32
  let v46 : BitVec 32 := Scalar.muli v9 c2_i32
  let c64_i32 : BitVec 32 := 64#32
  let v47 : BitVec 32 := Scalar.muli v46 c64_i32
  v47
def k0_off13 (i : grid0.Coords) (c0_i32_25 : BitVec 32) : Fin 2 → Nat :=
  let c0 : Index := 0#32
  let arg0 : BitVec 32 := BitVec.ofNat 32 (i 0).val
  let c16_i32_4 : BitVec 32 := 16#32
  let v9 : BitVec 32 := Scalar.subi arg0 c16_i32_4
  let c2_i32 : BitVec 32 := 2#32
  let v46 : BitVec 32 := Scalar.muli v9 c2_i32
  let c64_i32 : BitVec 32 := 64#32
  let v47 : BitVec 32 := Scalar.muli v46 c64_i32
  let v48 : BitVec 32 := v47
  let v49 : BitVec 32 := Scalar.addi c0_i32_25 v48
  let v50 : Index := Scalar.indexCast v49
  ![0, v50.toNat]
def k0_off14 (i : grid0.Coords) : Fin 2 → Nat :=
  let c0_76 : Index := 0#32
  let arg0 : BitVec 32 := BitVec.ofNat 32 (i 0).val
  let c16_i32_4 : BitVec 32 := 16#32
  let v9 : BitVec 32 := Scalar.subi arg0 c16_i32_4
  let c2_i32 : BitVec 32 := 2#32
  let v46 : BitVec 32 := Scalar.muli v9 c2_i32
  let c64_i32 : BitVec 32 := 64#32
  let v47 : BitVec 32 := Scalar.muli v46 c64_i32
  let v48 : BitVec 32 := v47
  let v158 : Index := Scalar.indexCast v48
  ![0, v158.toNat]
def k0_off15 (i : grid0.Coords) : Fin 2 → Nat :=
  let c0_77 : Index := 0#32
  let arg0 : BitVec 32 := BitVec.ofNat 32 (i 0).val
  let c16_i32_4 : BitVec 32 := 16#32
  let v9 : BitVec 32 := Scalar.subi arg0 c16_i32_4
  let c2_i32 : BitVec 32 := 2#32
  let v46 : BitVec 32 := Scalar.muli v9 c2_i32
  let c64_i32 : BitVec 32 := 64#32
  let v47 : BitVec 32 := Scalar.muli v46 c64_i32
  let v48 : BitVec 32 := v47
  let v161 : Index := Scalar.indexCast v48
  ![0, v161.toNat]
def k0_cond12 (i : grid0.Coords) : BitVec 1 :=
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c8_i32 : BitVec 32 := 8#32
  let v176 : BitVec 1 := Scalar.cmpi .slt v175 c8_i32
  let c3_i32_81 : BitVec 32 := 3#32
  let v177 : BitVec 32 := Scalar.subi v175 c3_i32_81
  let c0_i32_82 : BitVec 32 := 0#32
  let v178 : BitVec 1 := Scalar.cmpi .sge v177 c0_i32_82
  let v179 : BitVec 1 := Scalar.andi v176 v178
  let v180 : BitVec 32 := Scalar.extui v179
  let c0_i32_83 : BitVec 32 := 0#32
  let v181 : BitVec 1 := Scalar.cmpi .ne v180 c0_i32_83
  v181

def k0_off16 (i : grid0.Coords) : Fin 1 → Nat :=
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c3_i32_87 : BitVec 32 := 3#32
  let v188 : BitVec 32 := Scalar.subi v175 c3_i32_87
  let c3_i32_94 : BitVec 32 := 3#32
  let c0_i32_95 : BitVec 32 := 0#32
  let v199 : BitVec 1 := Scalar.cmpi .eq c3_i32_94 c0_i32_95
  let c1_i32_96 : BitVec 32 := 1#32
  let v200 : BitVec 32 := Scalar.select v199 c1_i32_96 c3_i32_94
  let v201 : BitVec 32 := Scalar.remsi v188 v200
  let c0_i32_98 : BitVec 32 := 0#32
  let v203 : BitVec 1 := Scalar.cmpi .slt v201 c0_i32_98
  let c0_i32_99 : BitVec 32 := 0#32
  let v204 : BitVec 1 := Scalar.cmpi .slt v200 c0_i32_99
  let v205 : BitVec 1 := Scalar.xori v203 v204
  let c0_i32_97 : BitVec 32 := 0#32
  let v202 : BitVec 1 := Scalar.cmpi .ne v201 c0_i32_97
  let v206 : BitVec 1 := Scalar.andi v205 v202
  let v207 : BitVec 32 := Scalar.addi v201 v200
  let v208 : BitVec 32 := Scalar.select v206 v207 v201
  ![v208.toNat]
def k0_off17 (i : grid0.Coords) : Fin 3 → Nat :=
  let c0_i32_100 : BitVec 32 := 0#32
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c3_i32_87 : BitVec 32 := 3#32
  let v188 : BitVec 32 := Scalar.subi v175 c3_i32_87
  let c0_i32_101 : BitVec 32 := 0#32
  ![0, v188.toNat, 0]
def k0_off18 (i : grid0.Coords) : Fin 3 → Nat :=
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c3_i32_87 : BitVec 32 := 3#32
  let v188 : BitVec 32 := Scalar.subi v175 c3_i32_87
  let c3_i32_88 : BitVec 32 := 3#32
  let c0_i32_89 : BitVec 32 := 0#32
  let v189 : BitVec 1 := Scalar.cmpi .eq c3_i32_88 c0_i32_89
  let c1_i32_90 : BitVec 32 := 1#32
  let v190 : BitVec 32 := Scalar.select v189 c1_i32_90 c3_i32_88
  let v191 : BitVec 32 := Scalar.remsi v188 v190
  let c0_i32_92 : BitVec 32 := 0#32
  let v193 : BitVec 1 := Scalar.cmpi .slt v191 c0_i32_92
  let c0_i32_93 : BitVec 32 := 0#32
  let v194 : BitVec 1 := Scalar.cmpi .slt v190 c0_i32_93
  let v195 : BitVec 1 := Scalar.xori v193 v194
  let c0_i32_91 : BitVec 32 := 0#32
  let v192 : BitVec 1 := Scalar.cmpi .ne v191 c0_i32_91
  let v196 : BitVec 1 := Scalar.andi v195 v192
  let v197 : BitVec 32 := Scalar.addi v191 v190
  let v198 : BitVec 32 := Scalar.select v196 v197 v191
  let c0_i32_102 : BitVec 32 := 0#32
  let c0_i32_103 : BitVec 32 := 0#32
  ![v198.toNat, 0, 0]
def k0_cond13 (i : grid0.Coords) : BitVec 1 :=
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c8_i32_84 : BitVec 32 := 8#32
  let v182 : BitVec 1 := Scalar.cmpi .slt v175 c8_i32_84
  let v183 : BitVec 32 := Scalar.extui v182
  let c0_i32_85 : BitVec 32 := 0#32
  let v184 : BitVec 1 := Scalar.cmpi .ne v183 c0_i32_85
  v184

def k0_off19 (i : grid0.Coords) : Fin 1 → Nat :=
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c3_i32_93 : BitVec 32 := 3#32
  let c0_i32_94 : BitVec 32 := 0#32
  let v198 : BitVec 1 := Scalar.cmpi .eq c3_i32_93 c0_i32_94
  let c1_i32_95 : BitVec 32 := 1#32
  let v199 : BitVec 32 := Scalar.select v198 c1_i32_95 c3_i32_93
  let v200 : BitVec 32 := Scalar.remsi v175 v199
  let c0_i32_97 : BitVec 32 := 0#32
  let v202 : BitVec 1 := Scalar.cmpi .slt v200 c0_i32_97
  let c0_i32_98 : BitVec 32 := 0#32
  let v203 : BitVec 1 := Scalar.cmpi .slt v199 c0_i32_98
  let v204 : BitVec 1 := Scalar.xori v202 v203
  let c0_i32_96 : BitVec 32 := 0#32
  let v201 : BitVec 1 := Scalar.cmpi .ne v200 c0_i32_96
  let v205 : BitVec 1 := Scalar.andi v204 v201
  let v206 : BitVec 32 := Scalar.addi v200 v199
  let v207 : BitVec 32 := Scalar.select v205 v206 v200
  ![v207.toNat]
def k0_off20 (i : grid0.Coords) : Fin 3 → Nat :=
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c3_i32_87 : BitVec 32 := 3#32
  let c0_i32_88 : BitVec 32 := 0#32
  let v188 : BitVec 1 := Scalar.cmpi .eq c3_i32_87 c0_i32_88
  let c1_i32_89 : BitVec 32 := 1#32
  let v189 : BitVec 32 := Scalar.select v188 c1_i32_89 c3_i32_87
  let v190 : BitVec 32 := Scalar.remsi v175 v189
  let c0_i32_91 : BitVec 32 := 0#32
  let v192 : BitVec 1 := Scalar.cmpi .slt v190 c0_i32_91
  let c0_i32_92 : BitVec 32 := 0#32
  let v193 : BitVec 1 := Scalar.cmpi .slt v189 c0_i32_92
  let v194 : BitVec 1 := Scalar.xori v192 v193
  let c0_i32_90 : BitVec 32 := 0#32
  let v191 : BitVec 1 := Scalar.cmpi .ne v190 c0_i32_90
  let v195 : BitVec 1 := Scalar.andi v194 v191
  let v196 : BitVec 32 := Scalar.addi v190 v189
  let v197 : BitVec 32 := Scalar.select v195 v196 v190
  let c0_i32_99 : BitVec 32 := 0#32
  let c0_i32_100 : BitVec 32 := 0#32
  ![v197.toNat, 0, 0]
def k0_off21 (i : grid0.Coords) : Fin 3 → Nat :=
  let c0_i32_101 : BitVec 32 := 0#32
  let arg0 : BitVec 32 := BitVec.ofNat 32 (i 0).val
  let c16_i32_4 : BitVec 32 := 16#32
  let v9 : BitVec 32 := Scalar.subi arg0 c16_i32_4
  let c2_i32_80 : BitVec 32 := 2#32
  let v175 : BitVec 32 := Scalar.addi v9 c2_i32_80
  let c0_i32_102 : BitVec 32 := 0#32
  ![0, v175.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32 : BitVec 32 := 3#32
  let v11 : BitVec 32 := Scalar.select v0 v10 c3_i32
  let c4_i32_3 : BitVec 32 := 4#32
  let v12 : BitVec 32 := Scalar.divsi arg0 c4_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi arg0 c4_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c3_i32_10 : BitVec 32 := 3#32
  let v29 : BitVec 32 := Scalar.minsi v28 c3_i32_10
  let c0_i32_11 : BitVec 32 := 0#32
  let c0_i32_12 : BitVec 32 := 0#32
  ![v11.toNat, c0_i32_11.toNat, v29.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32 : BitVec 32 := 3#32
  let v11 : BitVec 32 := Scalar.select v0 v10 c3_i32
  let c4_i32_3 : BitVec 32 := 4#32
  let v12 : BitVec 32 := Scalar.divsi arg0 c4_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi arg0 c4_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c3_i32_10 : BitVec 32 := 3#32
  let v29 : BitVec 32 := Scalar.minsi v28 c3_i32_10
  let c0_i32_11 : BitVec 32 := 0#32
  let c0_i32_12 : BitVec 32 := 0#32
  ![v11.toNat, c0_i32_11.toNat, v29.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32 : BitVec 32 := 3#32
  let v11 : BitVec 32 := Scalar.select v0 v10 c3_i32
  let c4_i32_3 : BitVec 32 := 4#32
  let v12 : BitVec 32 := Scalar.divsi arg0 c4_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi arg0 c4_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c3_i32_10 : BitVec 32 := 3#32
  let v29 : BitVec 32 := Scalar.minsi v28 c3_i32_10
  let c0_i32_11 : BitVec 32 := 0#32
  let c0_i32_12 : BitVec 32 := 0#32
  ![v11.toNat, c0_i32_11.toNat, v29.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32 : BitVec 32 := 3#32
  let v11 : BitVec 32 := Scalar.select v0 v10 c3_i32
  let c4_i32_3 : BitVec 32 := 4#32
  let v12 : BitVec 32 := Scalar.divsi arg0 c4_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi arg0 c4_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c3_i32_10 : BitVec 32 := 3#32
  let v29 : BitVec 32 := Scalar.minsi v28 c3_i32_10
  let c0_i32_11 : BitVec 32 := 0#32
  let c0_i32_12 : BitVec 32 := 0#32
  ![v11.toNat, c0_i32_11.toNat, v29.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S256x1024 : Shape := ⟨2, ![256, 1024]⟩
abbrev S256x16x64x64 : Shape := ⟨4, ![256, 16, 64, 64]⟩
abbrev S256x16x64 : Shape := ⟨3, ![256, 16, 64]⟩
abbrev S256x2 : Shape := ⟨2, ![256, 2]⟩
abbrev S4x1024x1024 : Shape := ⟨3, ![4, 1024, 1024]⟩
abbrev S4x1024 : Shape := ⟨2, ![4, 1024]⟩
abbrev S64 : Shape := ⟨1, ![64]⟩
abbrev S64x64 : Shape := ⟨2, ![64, 64]⟩
abbrev S256x4x1024 : Shape := ⟨3, ![256, 4, 1024]⟩
abbrev S1x4x1024 : Shape := ⟨3, ![1, 4, 1024]⟩
abbrev S256x2x1 : Shape := ⟨3, ![256, 2, 1]⟩
abbrev S_ : Shape := ⟨0, ![]⟩
abbrev S1 : Shape := ⟨1, ![1]⟩
abbrev S1x1x1 : Shape := ⟨3, ![1, 1, 1]⟩
abbrev S256x2x1024 : Shape := ⟨3, ![256, 2, 1024]⟩
abbrev S64x1 : Shape := ⟨2, ![64, 1]⟩
abbrev S256x16x64x1 : Shape := ⟨4, ![256, 16, 64, 1]⟩
abbrev S1x1x64 : Shape := ⟨3, ![1, 1, 64]⟩
abbrev S1x1x64x64 : Shape := ⟨4, ![1, 1, 64, 64]⟩
abbrev S256x16x1x64 : Shape := ⟨4, ![256, 16, 1, 64]⟩
abbrev S256x8x8192 : Shape := ⟨3, ![256, 8, 8192]⟩

abbrev nBuf : Space → Nat
  | .hbm => 207
  | .vmem => 0
  | .smem => 0
  | _ => 0

abbrev hbmTy0_0 (i : Nat) : BufTy := match i % 128 with
  | 0 => ⟨S256x1024, .f32⟩
  | 1 => ⟨S256x16x64x64, .f32⟩
  | 2 => ⟨S256x16x64, .f32⟩
  | 3 => ⟨S256x2, .i32⟩
  | 4 => ⟨S256x2, .f32⟩
  | 5 => ⟨S4x1024x1024, .f32⟩
  | 6 => ⟨S4x1024, .f32⟩
  | 7 => ⟨S4x1024x1024, .f32⟩
  | 8 => ⟨S4x1024, .f32⟩
  | 9 => ⟨S4x1024x1024, .f32⟩
  | 10 => ⟨S4x1024, .f32⟩
  | 11 => ⟨S4x1024x1024, .f32⟩
  | 12 => ⟨S4x1024, .f32⟩
  | 13 => ⟨S64, .f32⟩
  | 14 => ⟨S64x64, .f32⟩
  | 15 => ⟨S256x4x1024, .f32⟩
  | 16 => ⟨S1x4x1024, .f32⟩
  | 17 => ⟨S256x4x1024, .f32⟩
  | 18 => ⟨S256x4x1024, .f32⟩
  | 19 => ⟨S256x2x1, .i32⟩
  | 20 => ⟨S_, .i32⟩
  | 21 => ⟨S256x2x1, .i32⟩
  | 22 => ⟨S256x2x1, .i1⟩
  | 23 => ⟨S_, .i32⟩
  | 24 => ⟨S256x2x1, .i32⟩
  | 25 => ⟨S256x2x1, .i32⟩
  | 26 => ⟨S256x2x1, .i32⟩
  | 27 => ⟨S1, .i32⟩
  | 28 => ⟨S_, .i32⟩
  | 29 => ⟨S256x2x1, .i32⟩
  | 30 => ⟨S256x2x1, .i1⟩
  | 31 => ⟨S1x1x1, .i32⟩
  | 32 => ⟨S256x2x1, .i32⟩
  | 33 => ⟨S256x2x1, .i1⟩
  | 34 => ⟨S256x2x1, .i1⟩
  | 35 => ⟨S_, .i1⟩
  | 36 => ⟨S256x2, .i1⟩
  | 37 => ⟨S256x2x1024, .f32⟩
  | 38 => ⟨S256x2x1024, .i1⟩
  | 39 => ⟨S_, .f32⟩
  | 40 => ⟨S256x2x1024, .f32⟩
  | 41 => ⟨S256x2x1024, .f32⟩
  | 42 => ⟨S256x1024, .f32⟩
  | 43 => ⟨S256x16x64, .f32⟩
  | 44 => ⟨S256x4x1024, .f32⟩
  | 45 => ⟨S1x4x1024, .f32⟩
  | 46 => ⟨S256x4x1024, .f32⟩
  | 47 => ⟨S256x4x1024, .f32⟩
  | 48 => ⟨S256x2x1, .i32⟩
  | 49 => ⟨S_, .i32⟩
  | 50 => ⟨S256x2x1, .i32⟩
  | 51 => ⟨S256x2x1, .i1⟩
  | 52 => ⟨S_, .i32⟩
  | 53 => ⟨S256x2x1, .i32⟩
  | 54 => ⟨S256x2x1, .i32⟩
  | 55 => ⟨S256x2x1, .i32⟩
  | 56 => ⟨S1, .i32⟩
  | 57 => ⟨S_, .i32⟩
  | 58 => ⟨S256x2x1, .i32⟩
  | 59 => ⟨S256x2x1, .i1⟩
  | 60 => ⟨S1x1x1, .i32⟩
  | 61 => ⟨S256x2x1, .i32⟩
  | 62 => ⟨S256x2x1, .i1⟩
  | 63 => ⟨S256x2x1, .i1⟩
  | 64 => ⟨S_, .i1⟩
  | 65 => ⟨S256x2, .i1⟩
  | 66 => ⟨S256x2x1024, .f32⟩
  | 67 => ⟨S256x2x1024, .i1⟩
  | 68 => ⟨S_, .f32⟩
  | 69 => ⟨S256x2x1024, .f32⟩
  | 70 => ⟨S256x2x1024, .f32⟩
  | 71 => ⟨S256x1024, .f32⟩
  | 72 => ⟨S256x16x64, .f32⟩
  | 73 => ⟨S_, .f32⟩
  | 74 => ⟨S256x16x64, .f32⟩
  | 75 => ⟨S256x16x64, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S64x1, .f32⟩
  | 93 => ⟨S64x64, .f32⟩
  | 94 => ⟨S64x64, .f32⟩
  | 95 => ⟨S256x4x1024, .f32⟩
  | 96 => ⟨S1x4x1024, .f32⟩
  | 97 => ⟨S256x4x1024, .f32⟩
  | 98 => ⟨S256x4x1024, .f32⟩
  | 99 => ⟨S256x2x1, .i32⟩
  | 100 => ⟨S_, .i32⟩
  | 101 => ⟨S256x2x1, .i32⟩
  | 102 => ⟨S256x2x1, .i1⟩
  | 103 => ⟨S_, .i32⟩
  | 104 => ⟨S256x2x1, .i32⟩
  | 105 => ⟨S256x2x1, .i32⟩
  | 106 => ⟨S256x2x1, .i32⟩
  | 107 => ⟨S1, .i32⟩
  | 108 => ⟨S_, .i32⟩
  | 109 => ⟨S256x2x1, .i32⟩
  | 110 => ⟨S256x2x1, .i1⟩
  | 111 => ⟨S1x1x1, .i32⟩
  | 112 => ⟨S256x2x1, .i32⟩
  | 113 => ⟨S256x2x1, .i1⟩
  | 114 => ⟨S256x2x1, .i1⟩
  | 115 => ⟨S_, .i1⟩
  | 116 => ⟨S256x2, .i1⟩
  | 117 => ⟨S256x2x1024, .f32⟩
  | 118 => ⟨S256x2x1024, .i1⟩
  | 119 => ⟨S_, .f32⟩
  | 120 => ⟨S256x2x1024, .f32⟩
  | 121 => ⟨S256x2x1024, .f32⟩
  | 122 => ⟨S256x1024, .f32⟩
  | 123 => ⟨S256x16x64, .f32⟩
  | 124 => ⟨S256x16x64, .f32⟩
  | 125 => ⟨S256x16x64, .f32⟩
  | 126 => ⟨S_, .f32⟩
  | 127 => ⟨S256x16x64, .f32⟩
  | _ => ⟨S256x1024, .f32⟩

abbrev hbmTy0_1 (i : Nat) : BufTy := match i % 128 with
  | 0 => ⟨S256x16x64, .f32⟩
  | 1 => ⟨S_, .f32⟩
  | 2 => ⟨S256x16x64, .f32⟩
  | 3 => ⟨S256x16x64, .f32⟩
  | 4 => ⟨S256x16x64x1, .f32⟩
  | 5 => ⟨S256x4x1024, .f32⟩
  | 6 => ⟨S1x4x1024, .f32⟩
  | 7 => ⟨S256x4x1024, .f32⟩
  | 8 => ⟨S256x4x1024, .f32⟩
  | 9 => ⟨S256x2x1, .i32⟩
  | 10 => ⟨S_, .i32⟩
  | 11 => ⟨S256x2x1, .i32⟩
  | 12 => ⟨S256x2x1, .i1⟩
  | 13 => ⟨S_, .i32⟩
  | 14 => ⟨S256x2x1, .i32⟩
  | 15 => ⟨S256x2x1, .i32⟩
  | 16 => ⟨S256x2x1, .i32⟩
  | 17 => ⟨S1, .i32⟩
  | 18 => ⟨S_, .i32⟩
  | 19 => ⟨S256x2x1, .i32⟩
  | 20 => ⟨S256x2x1, .i1⟩
  | 21 => ⟨S1x1x1, .i32⟩
  | 22 => ⟨S256x2x1, .i32⟩
  | 23 => ⟨S256x2x1, .i1⟩
  | 24 => ⟨S256x2x1, .i1⟩
  | 25 => ⟨S_, .i1⟩
  | 26 => ⟨S256x2, .i1⟩
  | 27 => ⟨S256x2x1024, .f32⟩
  | 28 => ⟨S256x2x1024, .i1⟩
  | 29 => ⟨S_, .f32⟩
  | 30 => ⟨S256x2x1024, .f32⟩
  | 31 => ⟨S256x2x1024, .f32⟩
  | 32 => ⟨S256x1024, .f32⟩
  | 33 => ⟨S256x16x64, .f32⟩
  | 34 => ⟨S256x16x64, .f32⟩
  | 35 => ⟨S256x16x64, .f32⟩
  | 36 => ⟨S_, .f32⟩
  | 37 => ⟨S256x16x64, .f32⟩
  | 38 => ⟨S256x16x64, .f32⟩
  | 39 => ⟨S_, .f32⟩
  | 40 => ⟨S256x16x64, .f32⟩
  | 41 => ⟨S256x16x64, .f32⟩
  | 42 => ⟨S256x16x64x1, .f32⟩
  | 43 => ⟨S1x1x64, .f32⟩
  | 44 => ⟨S256x16x64, .f32⟩
  | 45 => ⟨S256x16x64, .f32⟩
  | 46 => ⟨S1x1x64x64, .f32⟩
  | 47 => ⟨S256x16x64x64, .f32⟩
  | 48 => ⟨S256x16x64x64, .f32⟩
  | 49 => ⟨S256x16x64x64, .f32⟩
  | 50 => ⟨S256x16x64x1, .f32⟩
  | 51 => ⟨S256x16x1x64, .f32⟩
  | 52 => ⟨S256x16x64x64, .f32⟩
  | 53 => ⟨S256x16x64x64, .f32⟩
  | 54 => ⟨S256x16x64x64, .f32⟩
  | 55 => ⟨S1x1x64x64, .f32⟩
  | 56 => ⟨S256x16x64x64, .f32⟩
  | 57 => ⟨S256x16x64x64, .f32⟩
  | 58 => ⟨S1x1x64, .f32⟩
  | 59 => ⟨S256x16x64, .f32⟩
  | 60 => ⟨S256x16x64, .f32⟩
  | 61 => ⟨S256x16x64x64, .f32⟩
  | 62 => ⟨S256x16x64x64, .f32⟩
  | 63 => ⟨S_, .f32⟩
  | 64 => ⟨S256x16x64x64, .f32⟩
  | 65 => ⟨S256x16x64x64, .f32⟩
  | 66 => ⟨S256x16x64x64, .f32⟩
  | 67 => ⟨S256x16x64x64, .f32⟩
  | 68 => ⟨S256x16x64x64, .f32⟩
  | 69 => ⟨S256x16x64x64, .f32⟩
  | 70 => ⟨S256x16x64, .f32⟩
  | 71 => ⟨S_, .f32⟩
  | 72 => ⟨S256x16x64, .f32⟩
  | 73 => ⟨S256x16x64, .f32⟩
  | 74 => ⟨S256x16x64, .f32⟩
  | 75 => ⟨S256x16x64, .f32⟩
  | 76 => ⟨S256x16x64, .f32⟩
  | 77 => ⟨S256x8x8192, .f32⟩
  | 78 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_c_2 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_c_3 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_c_2 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_c_3 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_call2_cst : Ref sig .tc := ⟨.hbm, 73, rfl⟩
abbrev main_call2_v0 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst : Ref sig .tc := ⟨.hbm, 78, rfl⟩
abbrev main_v19 : Ref sig .tc := ⟨.hbm, 79, rfl⟩
abbrev main_v20 : Ref sig .tc := ⟨.hbm, 80, rfl⟩
abbrev main_cst_0 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_cst_1 : Ref sig .tc := ⟨.hbm, 86, rfl⟩
abbrev main_v25 : Ref sig .tc := ⟨.hbm, 87, rfl⟩
abbrev main_v26 : Ref sig .tc := ⟨.hbm, 88, rfl⟩
abbrev main_cst_2 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_1 : Ref sig .tc := ⟨.hbm, 107, rfl⟩
abbrev main_call3_c_2 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_c_3 : Ref sig .tc := ⟨.hbm, 115, rfl⟩
abbrev main_call3_v11 : Ref sig .tc := ⟨.hbm, 116, rfl⟩
abbrev main_call3_v12 : Ref sig .tc := ⟨.hbm, 117, rfl⟩
abbrev main_call3_v13 : Ref sig .tc := ⟨.hbm, 118, rfl⟩
abbrev main_call3_cst : Ref sig .tc := ⟨.hbm, 119, rfl⟩
abbrev main_call3_v14 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_cst_3 : Ref sig .tc := ⟨.hbm, 126, rfl⟩
abbrev main_v42 : Ref sig .tc := ⟨.hbm, 127, rfl⟩
abbrev main_v43 : Ref sig .tc := ⟨.hbm, 128, rfl⟩
abbrev main_cst_4 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_c_1 : Ref sig .tc := ⟨.hbm, 145, rfl⟩
abbrev main_call4_c_2 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_c_3 : Ref sig .tc := ⟨.hbm, 153, rfl⟩
abbrev main_call4_v11 : Ref sig .tc := ⟨.hbm, 154, rfl⟩
abbrev main_call4_v12 : Ref sig .tc := ⟨.hbm, 155, rfl⟩
abbrev main_call4_v13 : Ref sig .tc := ⟨.hbm, 156, rfl⟩
abbrev main_call4_cst : Ref sig .tc := ⟨.hbm, 157, rfl⟩
abbrev main_call4_v14 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_cst_5 : Ref sig .tc := ⟨.hbm, 164, rfl⟩
abbrev main_v57 : Ref sig .tc := ⟨.hbm, 165, rfl⟩
abbrev main_v58 : Ref sig .tc := ⟨.hbm, 166, rfl⟩
abbrev main_cst_6 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_cst_7 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_cst_8 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩

abbrev nD : Nat := 1
abbrev τ : Topo := Topo.v7x

variable {F : FTy → Type} [FloatOps F]
-- ==== Proof.IdealNames.lean ====
/- Canonical names of the blocks, slots and cells the kernel transfers between, and the closed forms of its
   conditions and offsets over the 24 grid points. -/
module

public import proofs.«01_k».proof.Proof.Gen.KernelIdeal.Frame
public import proofs.«01_k».proof.Proof.Gen.KernelIdeal.Skeleton
public import Idealize.ShloMosaic.Lib.Ring
public import Idealize.ShloMosaic.Lib.Tactic

@[expose] public section

set_option maxRecDepth 16384

noncomputable section

namespace Cert.Proof.I

open Cert.KernelIdeal Cert.KernelIdeal.Gen
open Idealize.ShloMosaic
open Idealize.ShloMosaic.TcCoe Idealize.ShloMosaic.Tactic

/-- The memory array in HBM as the host reshapes it: 256 rows of 8 pairs of 8192 entries. -/
abbrev mM : Memref sig .tc .hbm S256x8x8192 .f32 := Memref.whole main_v0
/-- The updated memory array in HBM. -/
abbrev oM : Memref sig .tc .hbm S256x8x8192 .f32 := Memref.whole main_v37_0
/-- The scratch holding the four selected projections side by side. -/
abbrev gM : Memref sig .tc .vmem S256x4096 .f32 := Memref.whole cc0_scratch0
/-- The ring of three slots, one pair of heads each. -/
abbrev rM : Memref sig .tc .vmem S3x256x8192 .f32 := Memref.whole cc0_scratch1

abbrev blkOff (b : Fin 8) : Fin 3 → Nat := ![0, b.val, 0]
theorem blkOff_inb (b : Fin 8) : ∀ a, blkOff b a + S256x1x8192.size a ≤ S256x8x8192.size a := by
  have := b.isLt; intro a; fin_cases a
  · show 0 + 256 ≤ 256; omega
  · show b.val + 1 ≤ 8; omega
  · show 0 + 8192 ≤ 8192; omega
abbrev slotOff (s : Fin 3) : Fin 3 → Nat := ![s.val, 0, 0]
theorem slotOff_inb (s : Fin 3) : ∀ a, slotOff s a + S1x256x8192.size a ≤ S3x256x8192.size a := by
  have := s.isLt; intro a; fin_cases a
  · show s.val + 1 ≤ 3; omega
  · show 0 + 256 ≤ 256; omega
  · show 0 + 8192 ≤ 8192; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Pair `b` of the memory array. -/
def mblk (b : Fin 8) : Memref sig .tc .hbm S256x8192 .f32 :=
  (mM.slice (Rect.unit (s := S256x8x8192) (blkOff b) S256x1x8192.size (blkOff_inb b)) (fun _ => rfl)).squeeze S256x8192 squeezes_S256x1x8192_S256x8192
/-- Pair `b` of the updated memory array. -/
def oblk (b : Fin 8) : Memref sig .tc .hbm S256x8192 .f32 :=
  (oM.slice (Rect.unit (s := S256x8x8192) (blkOff b) S256x1x8192.size (blkOff_inb b)) (fun _ => rfl)).squeeze S256x8192 squeezes_S256x1x8192_S256x8192
/-- Slot `s` of the ring. -/
def rslot (s : Fin 3) : Memref sig .tc .vmem S256x8192 .f32 :=
  (rM.slice (Rect.unit (s := S3x256x8192) (slotOff s) S1x256x8192.size (slotOff_inb s)) (fun _ => rfl)).squeeze S256x8192 squeezes_S1x256x8192_S256x8192
/-- Slot `s`'s cell for copies into the ring. -/
def isem (s : Fin 3) : DmaSems sig S_ := (cc0_scratch2.slice (Rect.unit (s := S3) (semOff s) S1.size (semOff_inb s))).squeeze S_ squeezes_S1_S_
/-- Slot `s`'s cell for copies out of the ring. -/
def osem (s : Fin 3) : DmaSems sig S_ := (cc0_scratch3.slice (Rect.unit (s := S3) (semOff s) S1.size (semOff_inb s))).squeeze S_ squeezes_S1_S_

instance (s : Fin 3) : ClosedOff (slotOff s) := ⟨slotOff s, rfl⟩
instance (b : Fin 8) : ClosedOff (blkOff b) := ⟨blkOff b, rfl⟩

/-- The pair of heads that grid point `i` finishes, from point 16 on. -/
abbrev hp (i : grid0.Coords) : ℕ := (i 0).val - 16

/-! ## The offsets -/

theorem off10_eq : ∀ i : grid0.Coords, 16 ≤ (i 0).val → k0_off10 i = semOff (Ring.sl 3 (hp i)) := by decide +kernel
theorem off11_eq : ∀ i : grid0.Coords, 16 ≤ (i 0).val → k0_off11 i = slotOff (Ring.sl 3 (hp i)) := by decide +kernel
theorem off12_eq : ∀ i : grid0.Coords, 16 ≤ (i 0).val → k0_off12 i = blkOff (Ring.bk 8 (hp i)) := by decide +kernel
theorem off16_eq : ∀ i : grid0.Coords, 17 ≤ (i 0).val → k0_off16 i = semOff (Ring.sl 3 (hp i + 2)) := by decide +kernel
theorem off17_eq : ∀ i : grid0.Coords, 17 ≤ (i 0).val → k0_off17 i = blkOff (Ring.bk 8 (hp i - 1)) := by decide +kernel
theorem off18_eq : ∀ i : grid0.Coords, 17 ≤ (i 0).val → k0_off18 i = slotOff (Ring.sl 3 (hp i + 2)) := by decide +kernel
theorem off19_eq : ∀ i : grid0.Coords, 16 ≤ (i 0).val → k0_off19 i = semOff (Ring.sl 3 (hp i + 2)) := by decide +kernel
theorem off20_eq : ∀ i : grid0.Coords, 16 ≤ (i 0).val → k0_off20 i = slotOff (Ring.sl 3 (hp i + 2)) := by decide +kernel
theorem off21_eq : ∀ i : grid0.Coords, 16 ≤ (i 0).val → (i 0).val ≤ 21 → k0_off21 i = blkOff (Ring.bk 8 (hp i + 2)) := by decide +kernel

theorem off1_eq : ∀ i : grid0.Coords, k0_off1 i = ![(i 0).val % 4, 0, (i 0).val / 4 * 256] := by decide +kernel
theorem off2_eq : ∀ i : grid0.Coords, k0_off2 i = ![0, (i 0).val / 4 * 256] := by decide +kernel
theorem off3_eq : ∀ i : grid0.Coords, k0_off3 i = ![0, (i 0).val / 4 * 256] := by decide +kernel
theorem off4_eq : ∀ i : grid0.Coords, k0_off4 i = ![0, (i 0).val / 4 * 256 + 1024] := by decide +kernel
theorem off5_eq : ∀ i : grid0.Coords, k0_off5 i = ![0, (i 0).val / 4 * 256 + 1024] := by decide +kernel
theorem off6_eq : ∀ i : grid0.Coords, k0_off6 i = ![0, (i 0).val / 4 * 256 + 2048] := by decide +kernel
theorem off7_eq : ∀ i : grid0.Coords, k0_off7 i = ![0, (i 0).val / 4 * 256 + 2048] := by decide +kernel
theorem off8_eq : ∀ i : grid0.Coords, k0_off8 i = ![0, (i 0).val / 4 * 256 + 3072] := by decide +kernel
theorem off9_eq : ∀ i : grid0.Coords, k0_off9 i = ![0, (i 0).val / 4 * 256 + 3072] := by decide +kernel
instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩
instance (i : grid0.Coords) : ClosedOff (k0_off5 i) := ⟨_, off5_eq i⟩
instance (i : grid0.Coords) : ClosedOff (k0_off6 i) := ⟨_, off6_eq i⟩
instance (i : grid0.Coords) : ClosedOff (k0_off7 i) := ⟨_, off7_eq i⟩
instance (i : grid0.Coords) : ClosedOff (k0_off8 i) := ⟨_, off8_eq i⟩
instance (i : grid0.Coords) : ClosedOff (k0_off9 i) := ⟨_, off9_eq i⟩
theorem off13_eq : ∀ i : grid0.Coords, k0_cond11 i = 1#1 → ∀ p : Fin 4, k0_off13 i (BitVec.ofNat 32 (p.val * 1024)) = ![0, hp i * 128 + p.val * 1024] := by decide +kernel
theorem off14_eq : ∀ i : grid0.Coords, k0_cond11 i = 1#1 → k0_off14 i = ![0, hp i * 128] := by decide +kernel
theorem off15_eq : ∀ i : grid0.Coords, k0_cond11 i = 1#1 → k0_off15 i = ![0, hp i * 128] := by decide +kernel

/-! ## The conditions -/

/-- The printed test of the first grid point. -/
abbrev cond1 (i : grid0.Coords) : BitVec 1 :=
  Scalar.cmpi .ne (Scalar.extui (Scalar.cmpi .eq (BitVec.ofNat 32 (i 0).val) 0#32) : BitVec 32) 0#32

theorem cond1_iff : ∀ i : grid0.Coords, cond1 i = 1#1 ↔ (i 0).val = 0 := by decide +kernel
theorem cond2_iff : ∀ i : grid0.Coords, k0_cond2 i = 1#1 ↔ (i 0).val < 16 := by decide +kernel
theorem cond3_iff : ∀ i : grid0.Coords, k0_cond3 i = 1#1 ↔ (i 0).val % 4 = 0 := by decide +kernel
theorem cond4_iff : ∀ i : grid0.Coords, k0_cond4 i = 1#1 ↔ (i 0).val % 4 ≠ 0 := by decide +kernel
theorem cond5_iff : ∀ i : grid0.Coords, k0_cond5 i = 1#1 ↔ (i 0).val % 4 = 0 := by decide +kernel
theorem cond6_iff : ∀ i : grid0.Coords, k0_cond6 i = 1#1 ↔ (i 0).val % 4 ≠ 0 := by decide +kernel
theorem cond7_iff : ∀ i : grid0.Coords, k0_cond7 i = 1#1 ↔ (i 0).val % 4 = 0 := by decide +kernel
theorem cond8_iff : ∀ i : grid0.Coords, k0_cond8 i = 1#1 ↔ (i 0).val % 4 ≠ 0 := by decide +kernel
theorem cond9_iff : ∀ i : grid0.Coords, k0_cond9 i = 1#1 ↔ (i 0).val % 4 = 0 := by decide +kernel
theorem cond10_iff : ∀ i : grid0.Coords, k0_cond10 i = 1#1 ↔ (i 0).val % 4 ≠ 0 := by decide +kernel
theorem cond11_iff : ∀ i : grid0.Coords, k0_cond11 i = 1#1 ↔ 16 ≤ (i 0).val := by decide +kernel
theorem cond12_iff : ∀ i : grid0.Coords, 16 ≤ (i 0).val → (k0_cond12 i = 1#1 ↔ 17 ≤ (i 0).val ∧ (i 0).val ≤ 21) := by decide +kernel
theorem cond13_iff : ∀ i : grid0.Coords, 16 ≤ (i 0).val → (k0_cond13 i = 1#1 ↔ (i 0).val ≤ 21) := by decide +kernel
/-- The printed test of the last pair. -/
abbrev cond14 (i : grid0.Coords) : BitVec 1 :=
  Scalar.cmpi .ne (Scalar.extui (Scalar.cmpi .eq (Scalar.subi (BitVec.ofNat 32 (i 0).val) 16#32) 7#32) : BitVec 32) 0#32
theorem cond14_iff : ∀ i : grid0.Coords, cond14 i = 1#1 ↔ (i 0).val = 23 := by decide +kernel

/-! ## The body's slices are the named ones -/

private theorem isem_congr {off : Fin 1 → Nat} {s : Fin 3} (e : off = semOff s) (hh) :
    (cc0_scratch2.slice (Rect.unit (s := S3) off S1.size hh)).squeeze S_ squeezes_S1_S_ = isem s :=
  congrArg (fun A : DmaSems sig S1 => A.squeeze S_ squeezes_S1_S_) (SemArray.slice_unit_congr _ e _ _)
private theorem osem_congr {off : Fin 1 → Nat} {s : Fin 3} (e : off = semOff s) (hh) :
    (cc0_scratch3.slice (Rect.unit (s := S3) off S1.size hh)).squeeze S_ squeezes_S1_S_ = osem s :=
  congrArg (fun A : DmaSems sig S1 => A.squeeze S_ squeezes_S1_S_) (SemArray.slice_unit_congr _ e _ _)
private theorem rslot_congr {off : Fin 3 → Nat} {s : Fin 3} (e : off = slotOff s) (hh hs) :
    (rM.slice (Rect.unit (s := S3x256x8192) off S1x256x8192.size hh) hs).squeeze S256x8192 squeezes_S1x256x8192_S256x8192 = rslot s :=
  congrArg (fun M : Memref sig .tc .vmem S1x256x8192 .f32 => M.squeeze S256x8192 squeezes_S1x256x8192_S256x8192) (Memref.slice_unit_congr _ e _ _ _ _)
private theorem mblk_congr {off : Fin 3 → Nat} {b : Fin 8} (e : off = blkOff b) (hh hs) :
    (mM.slice (Rect.unit (s := S256x8x8192) off S256x1x8192.size hh) hs).squeeze S256x8192 squeezes_S256x1x8192_S256x8192 = mblk b :=
  congrArg (fun M : Memref sig .tc .hbm S256x1x8192 .f32 => M.squeeze S256x8192 squeezes_S256x1x8192_S256x8192) (Memref.slice_unit_congr _ e _ _ _ _)
private theorem oblk_congr {off : Fin 3 → Nat} {b : Fin 8} (e : off = blkOff b) (hh hs) :
    (oM.slice (Rect.unit (s := S256x8x8192) off S256x1x8192.size hh) hs).squeeze S256x8192 squeezes_S256x1x8192_S256x8192 = oblk b :=
  congrArg (fun M : Memref sig .tc .hbm S256x1x8192 .f32 => M.squeeze S256x8192 squeezes_S256x1x8192_S256x8192) (Memref.slice_unit_congr _ e _ _ _ _)

@[sl_canon] theorem isemL0 (hh) : (cc0_scratch2.slice (Rect.unit (s := S3) ![0] S1.size hh)).squeeze S_ squeezes_S1_S_ = isem 0 := isem_congr (by decide) _
@[sl_canon] theorem isemL1 (hh) : (cc0_scratch2.slice (Rect.unit (s := S3) ![1] S1.size hh)).squeeze S_ squeezes_S1_S_ = isem 1 := isem_congr (by decide) _
@[sl_canon] theorem slotL0 (hh hs) : (rM.slice (Rect.unit (s := S3x256x8192) ![0, 0, 0] S1x256x8192.size hh) hs).squeeze S256x8192 squeezes_S1x256x8192_S256x8192 = rslot 0 := rslot_congr (by decide) _ _
@[sl_canon] theorem slotL1 (hh hs) : (rM.slice (Rect.unit (s := S3x256x8192) ![1, 0, 0] S1x256x8192.size hh) hs).squeeze S256x8192 squeezes_S1x256x8192_S256x8192 = rslot 1 := rslot_congr (by decide) _ _
@[sl_canon] theorem slotL2 (hh hs) : (rM.slice (Rect.unit (s := S3x256x8192) ![2, 0, 0] S1x256x8192.size hh) hs).squeeze S256x8192 squeezes_S1x256x8192_S256x8192 = rslot 2 := rslot_congr (by decide) _ _
@[sl_canon] theorem mblkL0 (hh hs) : (mM.slice (Rect.unit (s := S256x8x8192) ![0, 0, 0] S256x1x8192.size hh) hs).squeeze S256x8192 squeezes_S256x1x8192_S256x8192 = mblk 0 := mblk_congr (by decide) _ _
@[sl_canon] theorem mblkL1 (hh hs) : (mM.slice (Rect.unit (s := S256x8x8192) ![0, 1, 0] S256x1x8192.size hh) hs).squeeze S256x8192 squeezes_S256x1x8192_S256x8192 = mblk 1 := mblk_congr (by decide) _ _
@[sl_canon] theorem osemL0 (hh) : (cc0_scratch3.slice (Rect.unit (s := S3) ![0] S1.size hh)).squeeze S_ squeezes_S1_S_ = osem 0 := osem_congr (by decide) _
@[sl_canon] theorem osemL1 (hh) : (cc0_scratch3.slice (Rect.unit (s := S3) ![1] S1.size hh)).squeeze S_ squeezes_S1_S_ = osem 1 := osem_congr (by decide) _
@[sl_canon] theorem osemL2 (hh) : (cc0_scratch3.slice (Rect.unit (s := S3) ![2] S1.size hh)).squeeze S_ squeezes_S1_S_ = osem 2 := osem_congr (by decide) _
@[sl_canon] theorem oblkL5 (hh hs) : (oM.slice (Rect.unit (s := S256x8x8192) ![0, 5, 0] S256x1x8192.size hh) hs).squeeze S256x8192 squeezes_S256x1x8192_S256x8192 = oblk 5 := oblk_congr (by decide) _ _
@[sl_canon] theorem oblkL6 (hh hs) : (oM.slice (Rect.unit (s := S256x8x8192) ![0, 6, 0] S256x1x8192.size hh) hs).squeeze S256x8192 squeezes_S256x1x8192_S256x8192 = oblk 6 := oblk_congr (by decide) _ _
@[sl_canon] theorem oblkL7 (hh hs) : (oM.slice (Rect.unit (s := S256x8x8192) ![0, 7, 0] S256x1x8192.size hh) hs).squeeze S256x8192 squeezes_S256x1x8192_S256x8192 = oblk 7 := oblk_congr (by decide) _ _

variable (i : grid0.Coords)

@[sl_canon] theorem isem10 (h : 16 ≤ (i 0).val) (hh) : (cc0_scratch2.slice (Rect.unit (s := S3) (k0_off10 i) S1.size hh)).squeeze S_ squeezes_S1_S_ = isem (Ring.sl 3 (hp i)) := isem_congr (off10_eq i h) _
@[sl_canon] theorem osem10 (h : 16 ≤ (i 0).val) (hh) : (cc0_scratch3.slice (Rect.unit (s := S3) (k0_off10 i) S1.size hh)).squeeze S_ squeezes_S1_S_ = osem (Ring.sl 3 (hp i)) := osem_congr (off10_eq i h) _
@[sl_canon] theorem slot11 (h : 16 ≤ (i 0).val) (hh hs) :
    (rM.slice (Rect.unit (s := S3x256x8192) (k0_off11 i) S1x256x8192.size hh) hs).squeeze S256x8192 squeezes_S1x256x8192_S256x8192 = rslot (Ring.sl 3 (hp i)) := rslot_congr (off11_eq i h) _ _
@[sl_canon] theorem mblk12 (h : 16 ≤ (i 0).val) (hh hs) :
    (mM.slice (Rect.unit (s := S256x8x8192) (k0_off12 i) S256x1x8192.size hh) hs).squeeze S256x8192 squeezes_S256x1x8192_S256x8192 = mblk (Ring.bk 8 (hp i)) := mblk_congr (off12_eq i h) _ _
@[sl_canon] theorem oblk12 (h : 16 ≤ (i 0).val) (hh hs) :
    (oM.slice (Rect.unit (s := S256x8x8192) (k0_off12 i) S256x1x8192.size hh) hs).squeeze S256x8192 squeezes_S256x1x8192_S256x8192 = oblk (Ring.bk 8 (hp i)) := oblk_congr (off12_eq i h) _ _
@[sl_canon] theorem osem16 (h : 17 ≤ (i 0).val) (hh) : (cc0_scratch3.slice (Rect.unit (s := S3) (k0_off16 i) S1.size hh)).squeeze S_ squeezes_S1_S_ = osem (Ring.sl 3 (hp i + 2)) := osem_congr (off16_eq i h) _
@[sl_canon] theorem oblk17 (h : 17 ≤ (i 0).val) (hh hs) :
    (oM.slice (Rect.unit (s := S256x8x8192) (k0_off17 i) S256x1x8192.size hh) hs).squeeze S256x8192 squeezes_S256x1x8192_S256x8192 = oblk (Ring.bk 8 (hp i - 1)) := oblk_congr (off17_eq i h) _ _
@[sl_canon] theorem slot18 (h : 17 ≤ (i 0).val) (hh hs) :
    (rM.slice (Rect.unit (s := S3x256x8192) (k0_off18 i) S1x256x8192.size hh) hs).squeeze S256x8192 squeezes_S1x256x8192_S256x8192 = rslot (Ring.sl 3 (hp i + 2)) := rslot_congr (off18_eq i h) _ _
@[sl_canon] theorem isem19 (h : 16 ≤ (i 0).val) (hh) : (cc0_scratch2.slice (Rect.unit (s := S3) (k0_off19 i) S1.size hh)).squeeze S_ squeezes_S1_S_ = isem (Ring.sl 3 (hp i + 2)) := isem_congr (off19_eq i h) _
@[sl_canon] theorem slot20 (h : 16 ≤ (i 0).val) (hh hs) :
    (rM.slice (Rect.unit (s := S3x256x8192) (k0_off20 i) S1x256x8192.size hh) hs).squeeze S256x8192 squeezes_S1x256x8192_S256x8192 = rslot (Ring.sl 3 (hp i + 2)) := rslot_congr (off20_eq i h) _ _
@[sl_canon] theorem mblk21 (h : 16 ≤ (i 0).val) (h' : (i 0).val ≤ 21) (hh hs) :
    (mM.slice (Rect.unit (s := S256x8x8192) (k0_off21 i) S256x1x8192.size hh) hs).squeeze S256x8192 squeezes_S256x1x8192_S256x8192 = mblk (Ring.bk 8 (hp i + 2)) := mblk_congr (off21_eq i h h') _ _

end Cert.Proof.I

end
-- ==== Proof.IdealVals.lean ====
/- What one grid point computes, as plain functions of the blocks it is handed. -/
module

public import proofs.«01_k».proof.Proof.IdealNames
public import Idealize.ShloMosaic.Lib.Transfers
public import Idealize.ShloMosaic.Lib.VecWindow
public import Idealize.ShloMosaic.Lib.WritesUnit
public import Idealize.ShloMosaic.Lib.ValueIdxCore

@[expose] public section

set_option maxRecDepth 16384

noncomputable section

namespace Cert.Proof.I

open Cert.KernelIdeal Cert.KernelIdeal.Gen
open Idealize.ShloMosaic
open Idealize.ShloMosaic.TcCoe Idealize.ShloMosaic.Tactic
open Idealize.ShloMosaic.ValueIdx (ix2 ix3)

variable {F : FTy → Type} [FloatOps F]

/-! ## Reading blocks -/

/-- The bias row of bank `t % 4` at column tile `t / 4`. -/
def bankW {α : Type} (t : ℕ) (x : S4x1x1024.Idx → α) : S1x1x256.Idx → α :=
  fun j => x (ix3 ⟨t % 4, Nat.mod_lt _ (by decide)⟩ ⟨0, by decide⟩ ⟨t / 4 % 4 * 256 + (j 2).val, by have : (j 2).val < 256 := (j 2).isLt; omega⟩)
/-- Column `k` of a two-column block. -/
def colK {α : Type} (k : Fin 2) (x : S256x2.Idx → α) : S256x1.Idx → α := fun j => x (ix2 (j 0) k)
/-- The 128 columns of pair `h` in projection `p`. -/
def colP {α : Type} (h : ℕ) (p : Fin 4) (G : S256x4096.Idx → α) : S256x128.Idx → α :=
  fun j => G (ix2 (j 0) ⟨h % 8 * 128 + p.val * 1024 + (j 1).val, by have : (j 1).val < 128 := (j 1).isLt; have := p.isLt; omega⟩)
/-- The 128 columns of pair `h` in a block of 1024 columns. -/
def colN {α : Type} {R : ℕ} (h : ℕ) (x : (⟨2, ![R, 1024]⟩ : Shape).Idx → α) : (⟨2, ![R, 128]⟩ : Shape).Idx → α :=
  fun j => x (ix2 (j 0) ⟨h % 8 * 128 + (j 1).val, by have : (j 1).val < 128 := (j 1).isLt; omega⟩)
/-- The left and the right half of a pair's 8192 columns. -/
def halfL {α : Type} (x : S256x8192.Idx → α) : S256x4096.Idx → α :=
  fun j => x (ix2 (j 0) ⟨(j 1).val, by have : (j 1).val < 4096 := (j 1).isLt; omega⟩)
def halfR {α : Type} (x : S256x8192.Idx → α) : S256x4096.Idx → α :=
  fun j => x (ix2 (j 0) ⟨4096 + (j 1).val, by have : (j 1).val < 4096 := (j 1).isLt; omega⟩)

section Reads
variable {sp : Space} {α : Type}

theorem rd_bank (i : grid0.Coords) (hi : (i 0).val < 16) (v : View sig .tc sp S4x1x1024 .f32) (x : S4x1x1024.Idx → Elt F .f32) (inb) :
    v.readAt (Elt F) (Rect.unit (s := S4x1x1024) (k0_off1 i) S1x1x256.size inb).toLoadRect (v.rep x) = bankW (i 0).val x := by
  funext j
  rw [View.readAt_rep]
  refine congrArg x (funext fun a => Fin.ext ?_)
  refine (congrArg (· + 1 * (j a).val) (congrFun (off1_eq i) a)).trans ?_
  have h0 : (j 0).val < 1 := (j 0).isLt
  have h1 : (j 1).val < 1 := (j 1).isLt
  match a with
  | ⟨0, _⟩ => show (i 0).val % 4 + 1 * (j 0).val = (i 0).val % 4; omega
  | ⟨1, _⟩ => show 0 + 1 * (j 1).val = 0; omega
  | ⟨2, _⟩ => show (i 0).val / 4 * 256 + 1 * (j 2).val = (i 0).val / 4 % 4 * 256 + (j 2).val; omega

theorem rd_col {e : EltTy} (k : Fin 2) (v : View sig .tc sp S256x2 e) (x : S256x2.Idx → Elt F e) (inb) :
    v.readAt (Elt F) (Rect.unit (s := S256x2) ![0, k.val] S256x1.size inb).toLoadRect (v.rep x) = colK k x := by
  funext j
  rw [View.readAt_rep]
  refine congrArg x (funext fun a => Fin.ext ?_)
  have h1 : (j 1).val < 1 := (j 1).isLt
  match a with
  | ⟨0, _⟩ => show 0 + 1 * (j 0).val = (j 0).val; omega
  | ⟨1, _⟩ => show k.val + 1 * (j 1).val = k.val; omega

theorem rd_colP (i : grid0.Coords) (h : k0_cond11 i = 1#1) (p : Fin 4) (v : View sig .tc sp S256x4096 .f32) (x : S256x4096.Idx → Elt F .f32) (inb) :
    v.readAt (Elt F) (Rect.unit (s := S256x4096) (k0_off13 i (BitVec.ofNat 32 (p.val * 1024))) S256x128.size inb).toLoadRect (v.rep x) = colP (hp i) p x := by
  have hi : (i 0).val < 24 := (i 0).isLt
  funext j
  rw [View.readAt_rep]
  refine congrArg x (funext fun a => Fin.ext ?_)
  refine (congrArg (· + 1 * (j a).val) (congrFun (off13_eq i h p) a)).trans ?_
  match a with
  | ⟨0, _⟩ => show 0 + 1 * (j 0).val = (j 0).val; omega
  | ⟨1, _⟩ => show hp i * 128 + p.val * 1024 + 1 * (j 1).val = hp i % 8 * 128 + p.val * 1024 + (j 1).val; rw [Nat.mod_eq_of_lt (show hp i < 8 by unfold hp; omega)]; omega

theorem rd_colN1 (i : grid0.Coords) (h : k0_cond11 i = 1#1) (v : View sig .tc sp S1x1024 .f32) (x : S1x1024.Idx → Elt F .f32) (inb) :
    v.readAt (Elt F) (Rect.unit (s := S1x1024) (k0_off14 i) S1x128.size inb).toLoadRect (v.rep x) = colN (hp i) x := by
  have hi : (i 0).val < 24 := (i 0).isLt
  funext j
  rw [View.readAt_rep]
  refine congrArg x (funext fun a => Fin.ext ?_)
  refine (congrArg (· + 1 * (j a).val) (congrFun (off14_eq i h) a)).trans ?_
  match a with
  | ⟨0, _⟩ => show 0 + 1 * (j 0).val = (j 0).val; omega
  | ⟨1, _⟩ => show hp i * 128 + 1 * (j 1).val = hp i % 8 * 128 + (j 1).val; rw [Nat.mod_eq_of_lt (show hp i < 8 by unfold hp; omega)]; omega

theorem rd_colN (i : grid0.Coords) (h : k0_cond11 i = 1#1) (v : View sig .tc sp S256x1024 .f32) (x : S256x1024.Idx → Elt F .f32) (inb) :
    v.readAt (Elt F) (Rect.unit (s := S256x1024) (k0_off15 i) S256x128.size inb).toLoadRect (v.rep x) = colN (hp i) x := by
  have hi : (i 0).val < 24 := (i 0).isLt
  funext j
  rw [View.readAt_rep]
  refine congrArg x (funext fun a => Fin.ext ?_)
  refine (congrArg (· + 1 * (j a).val) (congrFun (off15_eq i h) a)).trans ?_
  match a with
  | ⟨0, _⟩ => show 0 + 1 * (j 0).val = (j 0).val; omega
  | ⟨1, _⟩ => show hp i * 128 + 1 * (j 1).val = hp i % 8 * 128 + (j 1).val; rw [Nat.mod_eq_of_lt (show hp i < 8 by unfold hp; omega)]; omega

/-- Four stores of 256 columns each, 1024 columns apart, read back. -/
theorem read4 (v : View sig .tc sp S256x4096 .f32) (f : v.ty.Contents (Elt F)) (q : ℕ) (hq : q < 4)
    {o0 o1 o2 o3 : Fin 2 → ℕ} (e0 : o0 = ![0, q * 256]) (e1 : o1 = ![0, q * 256 + 1024]) (e2 : o2 = ![0, q * 256 + 2048]) (e3 : o3 = ![0, q * 256 + 3072])
    (b0 b1 b2 b3) (w0 w1 w2 w3 : S256x256.Idx → Elt F .f32) (y : S256x4096.Idx) :
    v.read (Elt F) (v.writes (Elt F) f
        [⟨Rect.unit (s := S256x4096) o3 S256x256.size b3, w3⟩, ⟨Rect.unit (s := S256x4096) o2 S256x256.size b2, w2⟩,
          ⟨Rect.unit (s := S256x4096) o1 S256x256.size b1, w1⟩, ⟨Rect.unit (s := S256x4096) o0 S256x256.size b0, w0⟩]) y
      = if (y 1).val % 1024 / 256 = q then
          (if (y 1).val < 1024 then w0 else if (y 1).val < 2048 then w1 else if (y 1).val < 3072 then w2 else w3)
            (ix2 (y 0) ⟨(y 1).val % 256, Nat.mod_lt _ (by decide)⟩)
        else v.read (Elt F) f y := by
  have hy : (y 1).val < 4096 := (y 1).isLt
  have nm : ∀ {o : Fin 2 → ℕ} (k : ℕ) (e : o = ![0, k]) (b) (w : S256x256.Idx → Elt F .f32) (L), ((y 1).val < k ∨ k + 256 ≤ (y 1).val) →
      v.read (Elt F) (v.writes (Elt F) f (⟨Rect.unit (s := S256x4096) o S256x256.size b, w⟩ :: L)) y = v.read (Elt F) (v.writes (Elt F) f L) y :=
    fun k e b w L h => View.read_writes_cons_unit_of_not_mem v f b w L y e (1 : Fin 2) h
  have mm : ∀ {o : Fin 2 → ℕ} (k : ℕ) (e : o = ![0, k]) (b) (w : S256x256.Idx → Elt F .f32) (L), k % 256 = 0 → k ≤ (y 1).val → (y 1).val < k + 256 →
      v.read (Elt F) (v.writes (Elt F) f (⟨Rect.unit (s := S256x4096) o S256x256.size b, w⟩ :: L)) y = w (ix2 (y 0) ⟨(y 1).val % 256, Nat.mod_lt _ (by decide)⟩) :=
    fun k e b w L hk h h' => View.read_writes_cons_unit_of_mem v f b w L y (ix2 (y 0) ⟨(y 1).val % 256, Nat.mod_lt _ (by decide)⟩) e (fun a => by
      match a with
      | ⟨0, _⟩ => show (y 0).val = 0 + (y 0).val; omega
      | ⟨1, _⟩ => show (y 1).val = k + (y 1).val % 256; omega)
  split
  · rename_i hc
    by_cases h1 : (y 1).val < 1024
    · rw [nm _ e3 _ _ _ (by omega), nm _ e2 _ _ _ (by omega), nm _ e1 _ _ _ (by omega), mm _ e0 _ _ _ (by omega) (by omega) (by omega), if_pos h1]
    by_cases h2 : (y 1).val < 2048
    · rw [nm _ e3 _ _ _ (by omega), nm _ e2 _ _ _ (by omega), mm _ e1 _ _ _ (by omega) (by omega) (by omega), if_neg h1, if_pos h2]
    by_cases h3 : (y 1).val < 3072
    · rw [nm _ e3 _ _ _ (by omega), mm _ e2 _ _ _ (by omega) (by omega) (by omega), if_neg h1, if_neg h2, if_pos h3]
    · rw [mm _ e3 _ _ _ (by omega) (by omega) (by omega), if_neg h1, if_neg h2, if_neg h3]
  · rename_i hc
    rw [nm _ e3 _ _ _ (by omega), nm _ e2 _ _ _ (by omega), nm _ e1 _ _ _ (by omega), nm _ e0 _ _ _ (by omega)]
    rfl

/-- One load of 256 columns out of the four projections. -/
theorem rd_g (v : View sig .tc sp S256x4096 .f32) (x : S256x4096.Idx → Elt F .f32) {o : Fin 2 → ℕ} (k : ℕ) (e : o = ![0, k]) (b) (j : S256x256.Idx) :
    v.readAt (Elt F) (Rect.unit (s := S256x4096) o S256x256.size b).toLoadRect (v.rep x) j
      = x (ix2 (j 0) ⟨k + (j 1).val, by have := b (1 : Fin 2); subst e; have : k + 256 ≤ 4096 := this; have : (j 1).val < 256 := (j 1).isLt; omega⟩) := by
  rw [View.readAt_rep]
  refine congrArg x (funext fun a => Fin.ext ?_)
  show o a + 1 * (j a).val = _
  subst e
  match a with
  | ⟨0, _⟩ => show 0 + 1 * (j 0).val = (j 0).val; omega
  | ⟨1, _⟩ => show k + 1 * (j 1).val = k + (j 1).val; omega

/-- The two halves of a slot stored in turn, read back. -/
theorem read2 (v : View sig .tc sp S256x8192 .f32) (f : v.ty.Contents (Elt F)) (b0 b1) (w0 w1 : S256x4096.Idx → Elt F .f32) (L) (y : S256x8192.Idx) :
    v.read (Elt F) (v.writes (Elt F) f
        (⟨Rect.unit (s := S256x8192) ![0, 4096] S256x4096.size b1, w1⟩ :: ⟨Rect.unit (s := S256x8192) ![0, 0] S256x4096.size b0, w0⟩ :: L)) y
      = if h : (y 1).val < 4096 then w0 (ix2 (y 0) ⟨(y 1).val, h⟩) else w1 (ix2 (y 0) ⟨(y 1).val - 4096, by have : (y 1).val < 8192 := (y 1).isLt; omega⟩) := by
  have hy : (y 1).val < 8192 := (y 1).isLt
  split
  · rename_i h
    rw [View.read_writes_cons_unit_of_not_mem v f b1 w1 _ y rfl (1 : Fin 2) (Or.inl (by show (y 1).val < 4096; exact h)),
      View.read_writes_cons_unit_of_mem v f b0 w0 L y (ix2 (y 0) ⟨(y 1).val, h⟩) rfl (fun a => by
        match a with
        | ⟨0, _⟩ => show (y 0).val = 0 + (y 0).val; omega
        | ⟨1, _⟩ => show (y 1).val = 0 + (y 1).val; omega)]
  · rename_i h
    rw [View.read_writes_cons_unit_of_mem v f b1 w1 _ y (ix2 (y 0) ⟨(y 1).val - 4096, by omega⟩) rfl (fun a => by
        match a with
        | ⟨0, _⟩ => show (y 0).val = 0 + (y 0).val; omega
        | ⟨1, _⟩ => show (y 1).val = 4096 + ((y 1).val - 4096); omega)]

end Reads

/-! ## The projections -/

/-- The bank number of a point, as the kernel computes it. -/
def bankWord (i : grid0.Coords) : BitVec 32 :=
  let arg0 : BitVec 32 := BitVec.ofNat 32 (i 0).val
  let v27 : BitVec 32 := Scalar.select (Scalar.cmpi .eq 4#32 0#32) 1#32 4#32
  let v28 : BitVec 32 := Scalar.remsi arg0 v27
  Scalar.select (Scalar.andi (Scalar.xori (Scalar.cmpi .slt v28 0#32) (Scalar.cmpi .slt v27 0#32)) (Scalar.cmpi .ne v28 0#32)) (Scalar.addi v28 v27) v28
theorem bankWord_eq : ∀ i : grid0.Coords, bankWord i = BitVec.ofNat 32 ((i 0).val % 4) := by decide +kernel

section Values
variable (i : grid0.Coords)
  (x1 : S256x1024.Idx → Elt F .f32) (x2 : S256x2.Idx → Elt F .i32) (x3 : S256x2.Idx → Elt F .f32) (x9 : S1x1024x256.Idx → Elt F .f32) (x10 : S4x1x1024.Idx → Elt F .f32) (x11 : S1x1024x256.Idx → Elt F .f32) (x12 : S4x1x1024.Idx → Elt F .f32) (x13 : S1x1024x256.Idx → Elt F .f32) (x14 : S4x1x1024.Idx → Elt F .f32) (x15 : S1x1024x256.Idx → Elt F .f32) (x16 : S4x1x1024.Idx → Elt F .f32)

/-- The first of the two terms of a row's weight on the point's bank. -/
def sn0 : FVec F S256x1 .f32 := k0_pay5 (BitVec.ofNat 32 (i 0).val) (colK 0 x2) (colK 0 x3)
/-- A row's weight on the point's bank. -/
def snV : FVec F S256x1 .f32 := k0_pay6 (bankWord i) (sn0 i x2 x3) (colK 1 x2) (colK 1 x3)
/-- What the point contributes to its tile of each projection. -/
def cV0 : FVec F S256x256 .f32 := k0_pay8 (bankWord i) (sn0 i x2 x3) (colK 1 x2) (colK 1 x3) x1 x9 (bankW (i 0).val x10)
def cV1 : FVec F S256x256 .f32 := k0_pay13 (k0_pay11 x1 x11 (bankW (i 0).val x12)) (k0_pay12 (bankWord i) (sn0 i x2 x3) (colK 1 x2) (colK 1 x3))
def cV2 : FVec F S256x256 .f32 := k0_pay16 (snV i x2 x3) (k0_pay7 x1) x13 (bankW (i 0).val x14)
def cV3 : FVec F S256x256 .f32 := k0_pay1 (snV i x2 x3) (k0_pay19 (k0_pay7 x1) x15) (k0_pay20 (bankW (i 0).val x16))
/-- The four contributions side by side, every tile alike. -/
def cAt : S256x4096.Idx → Elt F .f32 := fun y =>
  (if (y 1).val < 1024 then cV0 i x1 x2 x3 x9 x10 else if (y 1).val < 2048 then cV1 i x1 x2 x3 x11 x12 else if (y 1).val < 3072 then cV2 i x1 x2 x3 x13 x14 else cV3 i x1 x2 x3 x15 x16)
    (ix2 (y 0) ⟨(y 1).val % 256, Nat.mod_lt _ (by decide)⟩)

end Values

/-- The projections after a point: its tile started or added to. -/
def gStep (t : ℕ) (C G : FVec F S256x4096 .f32) : S256x4096.Idx → Elt F .f32 := fun y =>
  if (y 1).val % 1024 / 256 = t / 4 then (if t % 4 = 0 then C y else addf G C y) else G y

section Values2
variable (h : ℕ) (G : S256x4096.Idx → Elt F .f32)
  (x4 : S256x1024.Idx → Elt F .f32) (x5 : S1x1024.Idx → Elt F .f32) (x6 : S1x4096.Idx → Elt F .f32) (x7 : S64x4096.Idx → Elt F .bf16) (x8 : S64x4096.Idx → Elt F .bf16)
  (M : S256x8192.Idx → Elt F .f32)

/-- A pair's updated memory, half by half. -/
def mL : FVec F S256x4096 .f32 :=
  k0_pay31 (k0_pay26 x6) (k0_pay27 (colP h 2 G) x7) (k0_pay28 (colP h 3 G) x7) (k0_pay29 (colP h 0 G) (colP h 2 G) x7) (k0_pay30 (colP h 1 G) x8) (halfL M)
def mR : FVec F S256x4096 .f32 :=
  k0_pay35 (k0_pay32 (colP h 1 G) (k0_pay25 x8)) (k0_pay33 (k0_pay21 (colP h 2 G)) (k0_pay22 (colP h 3 G)) (k0_pay24 x7) (k0_pay26 x6) (halfR M))
    (k0_pay34 (k0_pay23 (colP h 0 G) (colP h 2 G)) (k0_pay24 x7) (k0_pay26 x6))
/-- A pair's updated memory. -/
def mVal : S256x8192.Idx → Elt F .f32 := fun y =>
  if h' : (y 1).val < 4096 then mL h G x6 x7 x8 M (ix2 (y 0) ⟨(y 1).val, h'⟩)
  else mR h G x6 x7 x8 M (ix2 (y 0) ⟨(y 1).val - 4096, by have : (y 1).val < 8192 := (y 1).isLt; omega⟩)
/-- A pair's columns of the updated normalizer. -/
def nVal : FVec F S256x128 .f32 :=
  k0_pay4 (k0_pay21 (colP h 2 G)) (k0_pay22 (colP h 3 G)) (k0_pay23 (colP h 0 G) (colP h 2 G)) (k0_pay36 (colN h x5)) (colN h x4)

end Values2

/-- The normalizer block after a pair: that pair's columns put in. -/
def nStep (h : ℕ) (N : FVec F S256x128 .f32) (Y : FVec F S256x1024 .f32) : S256x1024.Idx → Elt F .f32 := fun y =>
  if (y 1).val / 128 = h then N (ix2 (y 0) ⟨(y 1).val % 128, Nat.mod_lt _ (by decide)⟩) else Y y

end Cert.Proof.I

end
-- ==== Proof.IdealBody.lean ====
/- One grid point of the kernel body, run symbolically, in each of its cases. -/
module

public import proofs.«01_k».proof.Proof.IdealVals
public import Idealize.ShloMosaic.Lib.Pipeline.Value

@[expose] public section

set_option maxRecDepth 16384

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf UD)

variable {F : FTy → Type} [FloatOps F]

local notation "𝕄" => MT nD τ sig Unit (Elt F) ℕ (UD sig nD τ) ℕ
abbrev 𝒱₀ : Variants := Variants.none

omit [FloatOps F] in
theorem entails_of_eq {P Q : sProp 𝕄} (e : P = Q) : P ⊢ Q := e ▸ .rfl

/-! ## What the kernel holds -/

section Pieces
variable (c : Dev nD)

/-- The whole of a buffer, at contents `f`. -/
abbrev bufP {sp : Space} {s : Shape} {t : EltTy} (a : Memref sig .tc sp s t) (f : Buf (Elt F) (a.view.loc (c : Thread nD τ))) : sProp 𝕄 :=
  a.view.loc (c : Thread nD τ) ↦[a.view.set]{fullShare} f
/-- The whole of a staging buffer, holding the block `x`. -/
abbrev winP {sp : Space} {s : Shape} {t : EltTy} (a : Memref sig .tc sp s t) (x : s.Idx → Elt F t) : sProp 𝕄 :=
  a.view.loc (c : Thread nD τ) ↦[a.view.set]{fullShare} a.view.rep x
/-- A cell at zero. -/
abbrev cellP (s : DmaSems sig S_) : sProp 𝕄 := semVal ((c : Thread nD τ), SemLoc.dma s.sem) 0
/-- Pair `b` of the memory array at home. -/
abbrev homeP (XM : Buf (Elt F) (mM.view.loc (c : Thread nD τ))) (b : Fin 8) : sProp 𝕄 := (mblk b).view.loc (c : Thread nD τ) ↦[(mblk b).view.set]{fullShare} XM
/-- What pair `b`'s copy leaves in slot `s` over prior contents `f`. -/
abbrev landed (XM : Buf (Elt F) (mM.view.loc (c : Thread nD τ))) (s : Fin 3) (b : Fin 8) (f : Buf (Elt F) ((rslot s).view.loc (c : Thread nD τ))) :
    Buf (Elt F) ((rslot s).view.loc (c : Thread nD τ)) :=
  (rslot s).view.writes (Elt F) f [⟨Rect.whole S256x8192, ReadAs.same.apply ((mblk b).view.read (Elt F) XM)⟩]
/-- The units one copy of a pair moves on its cell. -/
abbrev AMT : ℕ := 262144
/-- Pair `b` on its way into slot `s`, issued over `f`. -/
abbrev inP (XM : Buf (Elt F) (mM.view.loc (c : Thread nD τ))) (s : Fin 3) (b : Fin 8) (f : Buf (Elt F) ((rslot s).view.loc (c : Thread nD τ))) : sProp 𝕄 :=
  Transfers.Flight countersEmb (c : Thread nD τ) (SemLoc.dma (isem s).sem) () AMT iprop(bufP c (rslot s) (landed c XM s b f) ∗ homeP c XM b)

/-- Slot `s` on its way out to pair `b`, carrying `v`, issued over `fo`. -/
abbrev outP (s : Fin 3) (b : Fin 8) (v : S256x8192.Idx → Elt F .f32) (fo : Buf (Elt F) ((oblk b).view.loc (c : Thread nD τ))) (fr : Buf (Elt F) ((rslot s).view.loc (c : Thread nD τ))) : sProp 𝕄 :=
  Transfers.Flight countersEmb (c : Thread nD τ) (SemLoc.dma (osem s).sem) () AMT iprop(bufP c (oblk b) ((oblk b).view.writes (Elt F) fo [⟨Rect.whole S256x8192, v⟩]) ∗ bufP c (rslot s) fr)

end Pieces

section Body
variable (c : Dev nD) (i : grid0.Coords)
  (a1 : Memref sig .tc .vmem S256x1024 .f32) (h1 : a1.IsWhole) (a2 : Memref sig .tc .vmem S256x2 .i32) (h2 : a2.IsWhole) (a3 : Memref sig .tc .vmem S256x2 .f32) (h3 : a3.IsWhole) (a4 : Memref sig .tc .vmem S256x1024 .f32) (h4 : a4.IsWhole) (a5 : Memref sig .tc .vmem S1x1024 .f32) (h5 : a5.IsWhole) (a6 : Memref sig .tc .vmem S1x4096 .f32) (h6 : a6.IsWhole) (a7 : Memref sig .tc .vmem S64x4096 .bf16) (h7 : a7.IsWhole) (a8 : Memref sig .tc .vmem S64x4096 .bf16) (h8 : a8.IsWhole) (a9 : Memref sig .tc .vmem S1x1024x256 .f32) (h9 : a9.IsWhole) (a10 : Memref sig .tc .vmem S4x1x1024 .f32) (h10 : a10.IsWhole) (a11 : Memref sig .tc .vmem S1x1024x256 .f32) (h11 : a11.IsWhole) (a12 : Memref sig .tc .vmem S4x1x1024 .f32) (h12 : a12.IsWhole) (a13 : Memref sig .tc .vmem S1x1024x256 .f32) (h13 : a13.IsWhole) (a14 : Memref sig .tc .vmem S4x1x1024 .f32) (h14 : a14.IsWhole) (a15 : Memref sig .tc .vmem S1x1024x256 .f32) (h15 : a15.IsWhole) (a16 : Memref sig .tc .vmem S4x1x1024 .f32) (h16 : a16.IsWhole) (a19 : Memref sig .tc .vmem S256x1024 .f32) (h19 : a19.IsWhole)
  (x1 : S256x1024.Idx → Elt F .f32) (x2 : S256x2.Idx → Elt F .i32) (x3 : S256x2.Idx → Elt F .f32) (x4 : S256x1024.Idx → Elt F .f32) (x5 : S1x1024.Idx → Elt F .f32) (x6 : S1x4096.Idx → Elt F .f32) (x7 : S64x4096.Idx → Elt F .bf16) (x8 : S64x4096.Idx → Elt F .bf16) (x9 : S1x1024x256.Idx → Elt F .f32) (x10 : S4x1x1024.Idx → Elt F .f32) (x11 : S1x1024x256.Idx → Elt F .f32) (x12 : S4x1x1024.Idx → Elt F .f32) (x13 : S1x1024x256.Idx → Elt F .f32) (x14 : S4x1x1024.Idx → Elt F .f32) (x15 : S1x1024x256.Idx → Elt F .f32) (x16 : S4x1x1024.Idx → Elt F .f32)

/-- The body on the given staging buffers and the kernel's own arrays. -/
abbrev bodyG : Prog (TpuEff nD τ sig (Elt F) Λ₀ .tc) PUnit :=
  cc0__body (F := F) i a1 h1 a2 h2 a3 h3 a4 h4 a5 h5 a6 h6 a7 h7 a8 h8 a9 h9 a10 h10 a11 h11 a12 h12 a13 h13 a14 h14 a15 h15 a16 h16 mM (Memref.isWhole_whole _) oM (Memref.isWhole_whole _) a19 h19 gM (Memref.isWhole_whole _) rM (Memref.isWhole_whole _) cc0_scratch2 cc0_scratch3

/-- The input blocks the projections read. -/
abbrev winA : sProp 𝕄 :=
  iprop(winP c a1 x1 ∗ winP c a2 x2 ∗ winP c a3 x3 ∗ winP c a9 x9 ∗ winP c a10 x10 ∗ winP c a11 x11 ∗ winP c a12 x12 ∗ winP c a13 x13 ∗ winP c a14 x14 ∗ winP c a15 x15 ∗ winP c a16 x16)

/-- The blocks the pairs read. -/
abbrev winB : sProp 𝕄 :=
  iprop(winP c a4 x4 ∗ winP c a5 x5 ∗ winP c a6 x6 ∗ winP c a7 x7 ∗ winP c a8 x8)

theorem rd_col0 {sp : Space} {e : EltTy} (v : View sig .tc sp S256x2 e) (x : S256x2.Idx → Elt F e) (inb) :
    v.readAt (Elt F) (Rect.unit (s := S256x2) ![0, 0] S256x1.size inb).toLoadRect (v.rep x) = colK 0 x := rd_col 0 v x inb
theorem rd_col1 {sp : Space} {e : EltTy} (v : View sig .tc sp S256x2 e) (x : S256x2.Idx → Elt F e) (inb) :
    v.readAt (Elt F) (Rect.unit (s := S256x2) ![0, 1] S256x1.size inb).toLoadRect (v.rep x) = colK 1 x := rd_col 1 v x inb

/-! ## What a projection point leaves -/

section Projections
variable (v : View sig .tc .vmem S256x4096 .f32) (G : S256x4096.Idx → Elt F .f32)
  {r20 r21 : Vec F S256x1 .i32} {r30 r31 : Vec F S256x1 .f32} {y1 : Vec F S256x1024 .f32} {y9 y11 y13 y15 : Vec F S1x1024x256 .f32} {y10 y12 y14 y16 : Vec F S1x1x256 .f32}
  {g0 g1 g2 g3 : Vec F S256x256 .f32}
  {o0 o1 o2 o3 : Fin 2 → ℕ} {b0 b1 b2 b3}

/-- Starting a tile. -/
theorem gStore (hi : (i 0).val < 16) (hn : (i 0).val % 4 = 0)
    (e0 : o0 = ![0, (i 0).val / 4 * 256]) (e1 : o1 = ![0, (i 0).val / 4 * 256 + 1024]) (e2 : o2 = ![0, (i 0).val / 4 * 256 + 2048]) (e3 : o3 = ![0, (i 0).val / 4 * 256 + 3072])
    {bw : BitVec 32} (qb : bw = bankWord i) (q20 : r20 = colK 0 x2) (q21 : r21 = colK 1 x2) (q30 : r30 = colK 0 x3) (q31 : r31 = colK 1 x3) (q1 : y1 = x1)
    (q9 : y9 = x9) (q11 : y11 = x11) (q13 : y13 = x13) (q15 : y15 = x15)
    (q10 : y10 = bankW (i 0).val x10) (q12 : y12 = bankW (i 0).val x12) (q14 : y14 = bankW (i 0).val x14) (q16 : y16 = bankW (i 0).val x16) :
    v.read (Elt F) (v.writes (Elt F) (v.rep G)
        [⟨Rect.unit (s := S256x4096) o3 S256x256.size b3, k0_pay2 (k0_pay6 bw (k0_pay5 (BitVec.ofNat 32 (i 0).val) r20 r30) r21 r31) (k0_pay19 (k0_pay7 y1) y15) (k0_pay20 y16)⟩,
          ⟨Rect.unit (s := S256x4096) o2 S256x256.size b2, k0_pay17 (k0_pay6 bw (k0_pay5 (BitVec.ofNat 32 (i 0).val) r20 r30) r21 r31) (k0_pay7 y1) y13 y14⟩,
          ⟨Rect.unit (s := S256x4096) o1 S256x256.size b1, k0_pay14 (k0_pay11 y1 y11 y12) (k0_pay12 bw (k0_pay5 (BitVec.ofNat 32 (i 0).val) r20 r30) r21 r31)⟩,
          ⟨Rect.unit (s := S256x4096) o0 S256x256.size b0, k0_pay9 bw (k0_pay5 (BitVec.ofNat 32 (i 0).val) r20 r30) r21 r31 y1 y9 y10⟩])
      = gStep (i 0).val (cAt i x1 x2 x3 x9 x10 x11 x12 x13 x14 x15 x16) G := by
  subst qb q20 q21 q30 q31 q1 q9 q11 q13 q15 q10 q12 q14 q16
  funext y
  rw [read4 v _ ((i 0).val / 4) (by omega) e0 e1 e2 e3, View.read_rep]
  unfold gStep cAt
  by_cases h : (y 1).val % 1024 / 256 = (i 0).val / 4
  · rw [if_pos h, if_pos h, if_pos hn]
    unfold k0_pay2 k0_pay17 k0_pay14 k0_pay9 cV0 cV1 cV2 cV3 snV sn0
    simp only [shapeCast_self]
  · rw [if_neg h, if_neg h]

/-- Adding to a tile. -/
theorem gAdd (hi : (i 0).val < 16) (hn : (i 0).val % 4 ≠ 0)
    (e0 : o0 = ![0, (i 0).val / 4 * 256]) (e1 : o1 = ![0, (i 0).val / 4 * 256 + 1024]) (e2 : o2 = ![0, (i 0).val / 4 * 256 + 2048]) (e3 : o3 = ![0, (i 0).val / 4 * 256 + 3072])
    {bw : BitVec 32} (qb : bw = bankWord i) (q20 : r20 = colK 0 x2) (q21 : r21 = colK 1 x2) (q30 : r30 = colK 0 x3) (q31 : r31 = colK 1 x3) (q1 : y1 = x1)
    (q9 : y9 = x9) (q11 : y11 = x11) (q13 : y13 = x13) (q15 : y15 = x15)
    (q10 : y10 = bankW (i 0).val x10) (q12 : y12 = bankW (i 0).val x12) (q14 : y14 = bankW (i 0).val x14) (q16 : y16 = bankW (i 0).val x16)
    (p0 : g0 = v.readAt (Elt F) (Rect.unit (s := S256x4096) o0 S256x256.size b0).toLoadRect (v.rep G)) (p1 : g1 = v.readAt (Elt F) (Rect.unit (s := S256x4096) o1 S256x256.size b1).toLoadRect (v.rep G))
    (p2 : g2 = v.readAt (Elt F) (Rect.unit (s := S256x4096) o2 S256x256.size b2).toLoadRect (v.rep G)) (p3 : g3 = v.readAt (Elt F) (Rect.unit (s := S256x4096) o3 S256x256.size b3).toLoadRect (v.rep G)) :
    v.read (Elt F) (v.writes (Elt F) (v.rep G)
        [⟨Rect.unit (s := S256x4096) o3 S256x256.size b3, k0_pay3 (k0_pay6 bw (k0_pay5 (BitVec.ofNat 32 (i 0).val) r20 r30) r21 r31) (k0_pay19 (k0_pay7 y1) y15) (k0_pay20 y16) g3⟩,
          ⟨Rect.unit (s := S256x4096) o2 S256x256.size b2, k0_pay18 (k0_pay6 bw (k0_pay5 (BitVec.ofNat 32 (i 0).val) r20 r30) r21 r31) (k0_pay7 y1) y13 y14 g2⟩,
          ⟨Rect.unit (s := S256x4096) o1 S256x256.size b1, k0_pay15 (k0_pay11 y1 y11 y12) (k0_pay12 bw (k0_pay5 (BitVec.ofNat 32 (i 0).val) r20 r30) r21 r31) g1⟩,
          ⟨Rect.unit (s := S256x4096) o0 S256x256.size b0, k0_pay10 bw (k0_pay5 (BitVec.ofNat 32 (i 0).val) r20 r30) r21 r31 y1 y9 y10 g0⟩])
      = gStep (i 0).val (cAt i x1 x2 x3 x9 x10 x11 x12 x13 x14 x15 x16) G := by
  subst qb q20 q21 q30 q31 q1 q9 q11 q13 q15 q10 q12 q14 q16 p0 p1 p2 p3
  funext y
  have hy : (y 1).val < 4096 := (y 1).isLt
  rw [read4 v _ ((i 0).val / 4) (by omega) e0 e1 e2 e3, View.read_rep]
  unfold gStep cAt
  by_cases h : (y 1).val % 1024 / 256 = (i 0).val / 4
  · rw [if_pos h, if_pos h, if_neg hn]
    unfold k0_pay3 k0_pay18 k0_pay15 k0_pay10
    simp only [shapeCast_self]
    have hg : ∀ {o : Fin 2 → ℕ} (k : ℕ) (e : o = ![0, k]) (b), k ≤ (y 1).val → (y 1).val < k + 256 → k % 256 = 0 →
        v.readAt (Elt F) (Rect.unit (s := S256x4096) o S256x256.size b).toLoadRect (v.rep G) (ix2 (y 0) ⟨(y 1).val % 256, Nat.mod_lt _ (by decide)⟩) = G y := by
      intro o k e b h1 h2 h3
      rw [rd_g v G k e b]
      refine congrArg G (funext fun a => Fin.ext ?_)
      match a with
      | ⟨0, _⟩ => rfl
      | ⟨1, _⟩ => show k + (y 1).val % 256 = (y 1).val; omega
    show _ = FloatOps.addf (G y) _
    beta_reduce
    by_cases t1 : (y 1).val < 1024
    · rw [if_pos t1, if_pos t1]; exact congrArg (FloatOps.addf · _) (hg _ e0 _ (by omega) (by omega) (by omega))
    by_cases t2 : (y 1).val < 2048
    · rw [if_neg t1, if_neg t1, if_pos t2, if_pos t2]; exact congrArg (FloatOps.addf · _) (hg _ e1 _ (by omega) (by omega) (by omega))
    by_cases t3 : (y 1).val < 3072
    · rw [if_neg t1, if_neg t1, if_neg t2, if_neg t2, if_pos t3, if_pos t3]; exact congrArg (FloatOps.addf · _) (hg _ e2 _ (by omega) (by omega) (by omega))
    · rw [if_neg t1, if_neg t1, if_neg t2, if_neg t2, if_neg t3, if_neg t3]; exact congrArg (FloatOps.addf · _) (hg _ e3 _ (by omega) (by omega) (by omega))
  · rw [if_neg h, if_neg h]

end Projections

/-! ## What a pair leaves -/

section Pairs
variable (G : S256x4096.Idx → Elt F .f32)
  {p0 p1 p2 p3 : Vec F S256x128 .f32} {y6 : Vec F S1x4096 .f32} {y7 y8 : Vec F S64x4096 .bf16} {r5 : Vec F S1x128 .f32} {r4 : Vec F S256x128 .f32}

/-- The normalizer's columns of the pair. -/
theorem nPut (h16 : 16 ≤ (i 0).val) (v : View sig .tc .vmem S256x1024 .f32) (Y : S256x1024.Idx → Elt F .f32) {o : Fin 2 → ℕ} {b}
    (e : o = ![0, hp i * 128]) (q0 : p0 = colP (hp i) 0 G) (q2 : p2 = colP (hp i) 2 G) (q3 : p3 = colP (hp i) 3 G) (q5 : r5 = colN (hp i) x5) (q4 : r4 = colN (hp i) x4) :
    v.read (Elt F) (v.writes (Elt F) (v.rep Y)
        [⟨Rect.unit (s := S256x1024) o S256x128.size b, k0_pay4 (k0_pay21 p2) (k0_pay22 p3) (k0_pay23 p0 p2) (k0_pay36 r5) r4⟩])
      = nStep (hp i) (nVal (hp i) G x4 x5) Y := by
  subst q0 q2 q3 q5 q4
  show v.read (Elt F) (v.writes (Elt F) (v.rep Y) [⟨Rect.unit (s := S256x1024) o S256x128.size b, nVal (hp i) G x4 x5⟩]) = _
  generalize nVal (hp i) G x4 x5 = w
  funext y
  have hy : (y 1).val < 1024 := (y 1).isLt
  have hf : v.read (Elt F) (v.rep Y) y = Y y := by rw [View.read_rep]
  unfold nStep
  generalize v.rep Y = f at hf
  by_cases h : (y 1).val / 128 = hp i
  · rw [if_pos h]
    exact View.read_writes_cons_unit_of_mem v f b w [] y (ix2 (y 0) ⟨(y 1).val % 128, Nat.mod_lt _ (by decide)⟩) e (fun a => by
      match a with
      | ⟨0, _⟩ => show (y 0).val = 0 + (y 0).val; omega
      | ⟨1, _⟩ => show (y 1).val = hp i * 128 + (y 1).val % 128; omega)
  · rw [if_neg h]
    have hk : (y 1).val < hp i * 128 ∨ hp i * 128 + 128 ≤ (y 1).val := by omega
    rw [View.read_writes_cons_unit_of_not_mem v f b w [] y e (1 : Fin 2) hk]
    exact hf

theorem rdHalfL (v : View sig .tc .vmem S256x8192 .f32) (f : v.ty.Contents (Elt F)) (M : S256x8192.Idx → Elt F .f32) (b) :
    v.readAt (Elt F) (Rect.unit (s := S256x8192) ![0, 0] S256x4096.size b).toLoadRect (v.writes (Elt F) f [⟨Rect.whole S256x8192, M⟩]) = halfL M := by
  funext j
  rw [View.readAt_apply, View.read_writes_whole]
  refine congrArg M (funext fun a => Fin.ext ?_)
  match a with
  | ⟨0, _⟩ => show 0 + 1 * (j 0).val = (j 0).val; omega
  | ⟨1, _⟩ => show 0 + 1 * (j 1).val = (j 1).val; omega

theorem rdHalfR (v : View sig .tc .vmem S256x8192 .f32) (f : v.ty.Contents (Elt F)) (M : S256x8192.Idx → Elt F .f32) (b) :
    v.readAt (Elt F) (Rect.unit (s := S256x8192) ![0, 4096] S256x4096.size b).toLoadRect (v.writes (Elt F) f [⟨Rect.whole S256x8192, M⟩]) = halfR M := by
  funext j
  rw [View.readAt_apply, View.read_writes_whole]
  refine congrArg M (funext fun a => Fin.ext ?_)
  match a with
  | ⟨0, _⟩ => show 0 + 1 * (j 0).val = (j 0).val; omega
  | ⟨1, _⟩ => show 4096 + 1 * (j 1).val = 4096 + (j 1).val; omega

theorem rdHalfR' (v : View sig .tc .vmem S256x8192 .f32) (f : v.ty.Contents (Elt F)) (M : S256x8192.Idx → Elt F .f32) (w : S256x4096.Idx → Elt F .f32) (b b') :
    v.readAt (Elt F) (Rect.unit (s := S256x8192) ![0, 4096] S256x4096.size b).toLoadRect
      (v.writes (Elt F) f [⟨Rect.unit (s := S256x8192) ![0, 0] S256x4096.size b', w⟩, ⟨Rect.whole S256x8192, M⟩]) = halfR M := by
  refine Eq.trans ?_ (rdHalfR v f M b)
  funext j
  exact View.read_writes_cons_unit_of_not_mem v f b' w _ _ rfl (1 : Fin 2) (Or.inr (by show 0 + 4096 ≤ 4096 + 1 * (j 1).val; omega))

theorem rdCovL (v : View sig .tc .vmem S256x8192 .f32) (M : S256x8192.Idx → Elt F .f32) (b) :
    v.readCov [⟨Rect.whole S256x8192, ReadAs.same.apply M⟩] (Rect.unit (s := S256x8192) ![0, 0] S256x4096.size b).toLoadRect = halfL M := rdHalfL v v.junk M b

theorem rdCovR (v : View sig .tc .vmem S256x8192 .f32) (M : S256x8192.Idx → Elt F .f32) (w : S256x4096.Idx → Elt F .f32) (b b') :
    v.readCov [⟨Rect.unit (s := S256x8192) ![0, 0] S256x4096.size b', w⟩, ⟨Rect.whole S256x8192, ReadAs.same.apply M⟩]
      (Rect.unit (s := S256x8192) ![0, 4096] S256x4096.size b).toLoadRect = halfR M := rdHalfR' v v.junk M w b b'

/-- The slot's two halves. -/
theorem mPut (v : View sig .tc .vmem S256x8192 .f32) (f : v.ty.Contents (Elt F)) (L) (M : S256x8192.Idx → Elt F .f32) {wL wR : Vec F S256x4096 .f32} {bL bR}
    (qL : wL = mL (hp i) G x6 x7 x8 M) (qR : wR = mR (hp i) G x6 x7 x8 M) :
    v.read (Elt F) (v.writes (Elt F) f
        (⟨Rect.unit (s := S256x8192) ![0, 4096] S256x4096.size bR, wR⟩
          :: ⟨Rect.unit (s := S256x8192) ![0, 0] S256x4096.size bL, wL⟩ :: L))
      = mVal (hp i) G x6 x7 x8 M := by
  unfold mVal
  subst qL qR
  generalize mL (hp i) G x6 x7 x8 M = wL
  generalize mR (hp i) G x6 x7 x8 M = wR
  funext y
  exact read2 v f bL bR wL wR L y

/-- The left half's value. -/
theorem mPutL (M : S256x8192.Idx → Elt F .f32) {yL : Vec F S256x4096 .f32}
    (q0 : p0 = colP (hp i) 0 G) (q1 : p1 = colP (hp i) 1 G) (q2 : p2 = colP (hp i) 2 G) (q3 : p3 = colP (hp i) 3 G)
    (q6 : y6 = x6) (q7 : y7 = x7) (q8 : y8 = x8) (qL : yL = halfL M) :
    k0_pay31 (k0_pay26 y6) (k0_pay27 p2 y7) (k0_pay28 p3 y7) (k0_pay29 p0 p2 y7) (k0_pay30 p1 y8) yL = mL (hp i) G x6 x7 x8 M := by
  rw [q0, q1, q2, q3, q6, q7, q8, qL]; rfl

/-- The right half's value. -/
theorem mPutR (M : S256x8192.Idx → Elt F .f32) {yR : Vec F S256x4096 .f32}
    (q0 : p0 = colP (hp i) 0 G) (q1 : p1 = colP (hp i) 1 G) (q2 : p2 = colP (hp i) 2 G) (q3 : p3 = colP (hp i) 3 G)
    (q6 : y6 = x6) (q7 : y7 = x7) (q8 : y8 = x8) (qR : yR = halfR M) :
    k0_pay35 (k0_pay32 p1 (k0_pay25 y8)) (k0_pay33 (k0_pay21 p2) (k0_pay22 p3) (k0_pay24 y7) (k0_pay26 y6) yR) (k0_pay34 (k0_pay23 p0 p2) (k0_pay24 y7) (k0_pay26 y6))
      = mR (hp i) G x6 x7 x8 M := by
  rw [q0, q1, q2, q3, q6, q7, q8, qR]; rfl

end Pairs

set_option maxHeartbeats 2000000 in
/-- A grid point of the first sixteen that adds a bank to its tile. -/
theorem runAdd (hi : (i 0).val < 16) (hn : (i 0).val % 4 ≠ 0) (G : S256x4096.Idx → Elt F .f32) (W) :
    iprop(winA (F := F) c a1 a2 a3 a9 a10 a11 a12 a13 a14 a15 a16 x1 x2 x3 x9 x10 x11 x12 x13 x14 x15 x16 ∗ winP c gM G ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winA (F := F) c a1 a2 a3 a9 a10 a11 a12 a13 a14 a15 a16 x1 x2 x3 x9 x10 x11 x12 x13 x14 x15 x16 ∗ (∃ G', ⌜G' = gStep (i 0).val (cAt i x1 x2 x3 x9 x10 x11 x12 x13 x14 x15 x16) G⌝ ∗ winP c gM G') ∗ ∃ W, owes (c : Thread nD τ) 0 W)) := by
  have c1 : ¬ cond1 i = 1#1 := fun h => by rw [cond1_iff] at h; omega
  have c2 : k0_cond2 i = 1#1 := (cond2_iff i).mpr hi
  have c3 : ¬ k0_cond3 i = 1#1 := fun h => by rw [cond3_iff] at h; omega
  have c4 : k0_cond4 i = 1#1 := (cond4_iff i).mpr hn
  have c5 : ¬ k0_cond5 i = 1#1 := fun h => by rw [cond5_iff] at h; omega
  have c6 : k0_cond6 i = 1#1 := (cond6_iff i).mpr hn
  have c7 : ¬ k0_cond7 i = 1#1 := fun h => by rw [cond7_iff] at h; omega
  have c8 : k0_cond8 i = 1#1 := (cond8_iff i).mpr hn
  have c9 : ¬ k0_cond9 i = 1#1 := fun h => by rw [cond9_iff] at h; omega
  have c10 : k0_cond10 i = 1#1 := (cond10_iff i).mpr hn
  have c11 : ¬ k0_cond11 i = 1#1 := fun h => by rw [cond11_iff] at h; omega
  iintro ⟨⟨H1, H2, H3, H9, H10, H11, H12, H13, H14, H15, H16⟩, HG, HW⟩
  simp only [bodyG, cc0__body_eq_skeleton]; unfold cc0__body_skel
  simp only [k0_part1_eq_skeleton, k0_part2_eq_skeleton, k0_part3_eq_skeleton]; unfold k0_part1_skel k0_part2_skel k0_part3_skel
  skip
  sl_exec
  sl_step
  isplitr [HG HW]
  · isplitl [H1]; · iexact H1
    isplitl [H2]; · iexact H2
    isplitl [H3]; · iexact H3
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HG]
  · ihave HG' := (pointsTo_rep_entails (c : Thread nD τ) gM _ fullShare) $$ HG
    iexists _
    isplitr [HG']; swap; · iexact HG'
    ipureintro
    dsimp only
    refine gAdd (v := gM.view) (G := G) (hi := hi) (hn := hn) (e0 := off3_eq i) (e1 := off5_eq i) (e2 := off7_eq i) (e3 := off9_eq i) (qb := ?_) (q20 := ?_) (q21 := ?_) (q30 := ?_) (q31 := ?_) (q1 := ?_) (q9 := ?_) (q11 := ?_) (q13 := ?_) (q15 := ?_) (q10 := ?_) (q12 := ?_) (q14 := ?_) (q16 := ?_) (p0 := ?_) (p1 := ?_) (p2 := ?_) (p3 := ?_)
    · rfl
    · exact rd_col0 _ _ _
    · exact rd_col1 _ _ _
    · exact rd_col0 _ _ _
    · exact rd_col1 _ _ _
    · exact View.readAt_rep_full _ _ _
    · exact View.readAt_rep_full _ _ _
    · exact View.readAt_rep_full _ _ _
    · exact View.readAt_rep_full _ _ _
    · exact View.readAt_rep_full _ _ _
    · exact rd_bank i hi _ _ _
    · exact rd_bank i hi _ _ _
    · exact rd_bank i hi _ _ _
    · exact rd_bank i hi _ _ _
    · rfl
    · rfl
    · rfl
    · rfl
  iexists _; iexact HW

set_option maxHeartbeats 2000000 in
/-- A grid point of the first sixteen that starts a tile. -/
theorem runStore (hi : (i 0).val < 16) (hn : (i 0).val % 4 = 0) (hz : (i 0).val ≠ 0) (G : S256x4096.Idx → Elt F .f32) (W) :
    iprop(winA (F := F) c a1 a2 a3 a9 a10 a11 a12 a13 a14 a15 a16 x1 x2 x3 x9 x10 x11 x12 x13 x14 x15 x16 ∗ winP c gM G ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winA (F := F) c a1 a2 a3 a9 a10 a11 a12 a13 a14 a15 a16 x1 x2 x3 x9 x10 x11 x12 x13 x14 x15 x16 ∗ (∃ G', ⌜G' = gStep (i 0).val (cAt i x1 x2 x3 x9 x10 x11 x12 x13 x14 x15 x16) G⌝ ∗ winP c gM G') ∗ ∃ W, owes (c : Thread nD τ) 0 W)) := by
  have c1 : ¬ cond1 i = 1#1 := fun h => by rw [cond1_iff] at h; omega
  have c2 : k0_cond2 i = 1#1 := (cond2_iff i).mpr hi
  have c3 : k0_cond3 i = 1#1 := (cond3_iff i).mpr hn
  have c4 : ¬ k0_cond4 i = 1#1 := fun h => by rw [cond4_iff] at h; omega
  have c5 : k0_cond5 i = 1#1 := (cond5_iff i).mpr hn
  have c6 : ¬ k0_cond6 i = 1#1 := fun h => by rw [cond6_iff] at h; omega
  have c7 : k0_cond7 i = 1#1 := (cond7_iff i).mpr hn
  have c8 : ¬ k0_cond8 i = 1#1 := fun h => by rw [cond8_iff] at h; omega
  have c9 : k0_cond9 i = 1#1 := (cond9_iff i).mpr hn
  have c10 : ¬ k0_cond10 i = 1#1 := fun h => by rw [cond10_iff] at h; omega
  have c11 : ¬ k0_cond11 i = 1#1 := fun h => by rw [cond11_iff] at h; omega
  iintro ⟨⟨H1, H2, H3, H9, H10, H11, H12, H13, H14, H15, H16⟩, HG, HW⟩
  simp only [bodyG, cc0__body_eq_skeleton]; unfold cc0__body_skel
  simp only [k0_part1_eq_skeleton, k0_part2_eq_skeleton, k0_part3_eq_skeleton]; unfold k0_part1_skel k0_part2_skel k0_part3_skel
  skip
  sl_exec
  sl_step
  isplitr [HG HW]
  · isplitl [H1]; · iexact H1
    isplitl [H2]; · iexact H2
    isplitl [H3]; · iexact H3
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HG]
  · ihave HG' := (pointsTo_rep_entails (c : Thread nD τ) gM _ fullShare) $$ HG
    iexists _
    isplitr [HG']; swap; · iexact HG'
    ipureintro
    dsimp only
    refine gStore (v := gM.view) (G := G) (hi := hi) (hn := hn) (e0 := off2_eq i) (e1 := off4_eq i) (e2 := off6_eq i) (e3 := off8_eq i) (qb := ?_) (q20 := ?_) (q21 := ?_) (q30 := ?_) (q31 := ?_) (q1 := ?_) (q9 := ?_) (q11 := ?_) (q13 := ?_) (q15 := ?_) (q10 := ?_) (q12 := ?_) (q14 := ?_) (q16 := ?_)
    · rfl
    · exact rd_col0 _ _ _
    · exact rd_col1 _ _ _
    · exact rd_col0 _ _ _
    · exact rd_col1 _ _ _
    · exact View.readAt_rep_full _ _ _
    · exact View.readAt_rep_full _ _ _
    · exact View.readAt_rep_full _ _ _
    · exact View.readAt_rep_full _ _ _
    · exact View.readAt_rep_full _ _ _
    · exact rd_bank i hi _ _ _
    · exact rd_bank i hi _ _ _
    · exact rd_bank i hi _ _ _
    · exact rd_bank i hi _ _ _
  iexists _; iexact HW

set_option maxHeartbeats 2000000 in
/-- The first grid point: two pairs are sent for, and the first tile is started. -/
theorem runFirst (hi : (i 0).val < 16) (hn : (i 0).val % 4 = 0) (hz : (i 0).val = 0) (G : S256x4096.Idx → Elt F .f32) (XM : Buf (Elt F) (mM.view.loc (c : Thread nD τ))) (f0 f1) (W) :
    iprop(winA (F := F) c a1 a2 a3 a9 a10 a11 a12 a13 a14 a15 a16 x1 x2 x3 x9 x10 x11 x12 x13 x14 x15 x16 ∗ winP c gM G ∗ homeP c XM 0 ∗ homeP c XM 1 ∗ bufP c (rslot 0) f0 ∗ bufP c (rslot 1) f1 ∗ cellP c (isem 0) ∗ cellP c (isem 1) ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winA (F := F) c a1 a2 a3 a9 a10 a11 a12 a13 a14 a15 a16 x1 x2 x3 x9 x10 x11 x12 x13 x14 x15 x16 ∗ (∃ G', ⌜G' = gStep (i 0).val (cAt i x1 x2 x3 x9 x10 x11 x12 x13 x14 x15 x16) G⌝ ∗ winP c gM G') ∗ inP c XM 0 0 f0 ∗ inP c XM 1 1 f1 ∗ ∃ W, owes (c : Thread nD τ) 0 W)) := by
  have c1 : cond1 i = 1#1 := (cond1_iff i).mpr hz
  have c2 : k0_cond2 i = 1#1 := (cond2_iff i).mpr hi
  have c3 : k0_cond3 i = 1#1 := (cond3_iff i).mpr hn
  have c4 : ¬ k0_cond4 i = 1#1 := fun h => by rw [cond4_iff] at h; omega
  have c5 : k0_cond5 i = 1#1 := (cond5_iff i).mpr hn
  have c6 : ¬ k0_cond6 i = 1#1 := fun h => by rw [cond6_iff] at h; omega
  have c7 : k0_cond7 i = 1#1 := (cond7_iff i).mpr hn
  have c8 : ¬ k0_cond8 i = 1#1 := fun h => by rw [cond8_iff] at h; omega
  have c9 : k0_cond9 i = 1#1 := (cond9_iff i).mpr hn
  have c10 : ¬ k0_cond10 i = 1#1 := fun h => by rw [cond10_iff] at h; omega
  have c11 : ¬ k0_cond11 i = 1#1 := fun h => by rw [cond11_iff] at h; omega
  iintro ⟨⟨H1, H2, H3, H9, H10, H11, H12, H13, H14, H15, H16⟩, HG, HM0, HM1, HR0, HR1, HI0, HI1, HW⟩
  simp only [bodyG, cc0__body_eq_skeleton]; unfold cc0__body_skel
  simp only [k0_part1_eq_skeleton, k0_part2_eq_skeleton, k0_part3_eq_skeleton]; unfold k0_part1_skel k0_part2_skel k0_part3_skel
  simp only [isemL0, isemL1, slotL0, slotL1, mblkL0, mblkL1]
  sl_exec
  sl_step
  isplitr [HG HW HI0 HI1]
  · isplitl [H1]; · iexact H1
    isplitl [H2]; · iexact H2
    isplitl [H3]; · iexact H3
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HG]
  · ihave HG' := (pointsTo_rep_entails (c : Thread nD τ) gM _ fullShare) $$ HG
    iexists _
    isplitr [HG']; swap; · iexact HG'
    ipureintro
    dsimp only
    refine gStore (v := gM.view) (G := G) (hi := hi) (hn := hn) (e0 := off2_eq i) (e1 := off4_eq i) (e2 := off6_eq i) (e3 := off8_eq i) (qb := ?_) (q20 := ?_) (q21 := ?_) (q30 := ?_) (q31 := ?_) (q1 := ?_) (q9 := ?_) (q11 := ?_) (q13 := ?_) (q15 := ?_) (q10 := ?_) (q12 := ?_) (q14 := ?_) (q16 := ?_)
    · rfl
    · exact rd_col0 _ _ _
    · exact rd_col1 _ _ _
    · exact rd_col0 _ _ _
    · exact rd_col1 _ _ _
    · exact View.readAt_rep_full _ _ _
    · exact View.readAt_rep_full _ _ _
    · exact View.readAt_rep_full _ _ _
    · exact View.readAt_rep_full _ _ _
    · exact View.readAt_rep_full _ _ _
    · exact rd_bank i hi _ _ _
    · exact rd_bank i hi _ _ _
    · exact rd_bank i hi _ _ _
    · exact rd_bank i hi _ _ _
  isplitl [HI0]; · iexact HI0
  isplitl [HI1]; · iexact HI1
  iexists _; iexact HW

set_option maxHeartbeats 2000000 in
/-- The first pair: the third is sent for into the free slot. -/
theorem runPair0 (hz : (i 0).val = 16) (G : S256x4096.Idx → Elt F .f32) (Y : S256x1024.Idx → Elt F .f32) (XM : Buf (Elt F) (mM.view.loc (c : Thread nD τ))) (f1 f3 f4) (W) :
    iprop(winB (F := F) c a4 a5 a6 a7 a8 x4 x5 x6 x7 x8 ∗ winP c gM G ∗ winP c a19 Y ∗ inP c XM (Ring.sl 3 (hp i)) (Ring.bk 8 (hp i)) f1 ∗ cellP c (osem (Ring.sl 3 (hp i))) ∗ bufP c (oblk (Ring.bk 8 (hp i))) f4 ∗ bufP c (rslot (Ring.sl 3 (hp i + 2))) f3 ∗ cellP c (isem (Ring.sl 3 (hp i + 2))) ∗ homeP c XM (Ring.bk 8 (hp i + 2)) ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep (hp i) (nVal (hp i) G x4 x5) Y⌝ ∗ winP c a19 Y') ∗ homeP c XM (Ring.bk 8 (hp i)) ∗ cellP c (isem (Ring.sl 3 (hp i))) ∗ (∃ v fr, ⌜v = mVal (hp i) G x6 x7 x8 ((mblk (Ring.bk 8 (hp i))).view.read (Elt F) XM)⌝ ∗ outP c (Ring.sl 3 (hp i)) (Ring.bk 8 (hp i)) v f4 fr) ∗ inP c XM (Ring.sl 3 (hp i + 2)) (Ring.bk 8 (hp i + 2)) f3 ∗ ∃ W, owes (c : Thread nD τ) 0 W)) := by
    have h16' : 16 ≤ (i 0).val := by omega
    have c1 : ¬ cond1 i = 1#1 := fun h => by rw [cond1_iff] at h; omega
    have c2 : ¬ k0_cond2 i = 1#1 := fun h => by rw [cond2_iff] at h; omega
    have c11 : k0_cond11 i = 1#1 := (cond11_iff i).mpr h16'
    have c12 : ¬ k0_cond12 i = 1#1 := fun h => by rw [cond12_iff i h16'] at h; omega
    have c13 : k0_cond13 i = 1#1 := (cond13_iff i h16').mpr (by omega)
    have c14 : ¬ cond14 i = 1#1 := fun h => by rw [cond14_iff] at h; omega
    haveI : ClosedOff (k0_off13 i 0#32) := ⟨_, off13_eq i c11 0⟩
    haveI : ClosedOff (k0_off13 i 1024#32) := ⟨_, off13_eq i c11 1⟩
    haveI : ClosedOff (k0_off13 i 2048#32) := ⟨_, off13_eq i c11 2⟩
    haveI : ClosedOff (k0_off13 i 3072#32) := ⟨_, off13_eq i c11 3⟩
    haveI : ClosedOff (k0_off14 i) := ⟨_, off14_eq i c11⟩
    haveI : ClosedOff (k0_off15 i) := ⟨_, off15_eq i c11⟩
    iintro ⟨⟨H4, H5, H6, H7, H8⟩, HG, HN, HF, HC, HO, HR, HI, HM, HW⟩
    simp only [bodyG, cc0__body_eq_skeleton]; unfold cc0__body_skel
    simp only [k0_part4_eq_skeleton, k0_part5_eq_skeleton, k0_part6_eq_skeleton, k0_part7_eq_skeleton]; unfold k0_part4_skel k0_part5_skel k0_part6_skel k0_part7_skel
    simp only [isem10 i h16', osem10 i h16', slot11 i h16', mblk12 i h16', oblk12 i h16', isem19 i h16', slot20 i h16', mblk21 i h16' (by omega)]
    sl_exec
    sl_step
    isplitr [HN HG HF_src HF HW HC HI]
    · isplitl [H4]; · iexact H4
      isplitl [H5]; · iexact H5
      isplitl [H6]; · iexact H6
      isplitl [H7]; · iexact H7
      iexact H8
    isplitl [HG]; · iexact HG
    isplitl [HN]
    · ihave HN' := (pointsTo_rep_entails (c : Thread nD τ) a19 _ fullShare) $$ HN
      iexists _
      isplitr [HN']; swap; · iexact HN'
      ipureintro
      dsimp only
      refine nPut (h16 := h16') (v := a19.view) (Y := Y) (G := G) (e := off15_eq i c11) (q0 := ?_) (q2 := ?_) (q3 := ?_) (q5 := ?_) (q4 := ?_)
      · exact rd_colP i c11 0 _ _ _
      · exact rd_colP i c11 2 _ _ _
      · exact rd_colP i c11 3 _ _ _
      · exact rd_colN1 i c11 _ _ _
      · exact rd_colN i c11 _ _ _
    isplitl [HF_src]; · iexact HF_src
    isplitl [HF]; · iexact HF
    isplitl [HC]
    · iexists _; iexists _
      isplitr [HC]; swap; · iexact HC
      ipureintro
      refine mPut (v := (rslot (Ring.sl 3 (hp i))).view) (G := G) (qL := ?_) (qR := ?_) ..
      · dsimp only
        refine mPutL (G := G) (q0 := ?_) (q1 := ?_) (q2 := ?_) (q3 := ?_) (q6 := ?_) (q7 := ?_) (q8 := ?_) (qL := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovL _ _ _
      · dsimp only
        refine mPutR (G := G) (q0 := ?_) (q1 := ?_) (q2 := ?_) (q3 := ?_) (q6 := ?_) (q7 := ?_) (q8 := ?_) (qR := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovR _ _ _ _ _
    isplitl [HI]; · iexact HI
    iexists _; iexact HW

set_option maxHeartbeats 2000000 in
/-- A pair in the middle: the pair before it has gone out, and the one two on is sent for into its slot. -/
theorem runMid (h17 : 17 ≤ (i 0).val) (h21 : (i 0).val ≤ 21) (G : S256x4096.Idx → Elt F .f32) (Y : S256x1024.Idx → Elt F .f32) (XM : Buf (Elt F) (mM.view.loc (c : Thread nD τ))) (f1 f2 f3 v3 f4) (W) :
    iprop(winB (F := F) c a4 a5 a6 a7 a8 x4 x5 x6 x7 x8 ∗ winP c gM G ∗ winP c a19 Y ∗ inP c XM (Ring.sl 3 (hp i)) (Ring.bk 8 (hp i)) f1 ∗ cellP c (osem (Ring.sl 3 (hp i))) ∗ bufP c (oblk (Ring.bk 8 (hp i))) f4 ∗ outP c (Ring.sl 3 (hp i + 2)) (Ring.bk 8 (hp i - 1)) v3 f2 f3 ∗ cellP c (isem (Ring.sl 3 (hp i + 2))) ∗ homeP c XM (Ring.bk 8 (hp i + 2)) ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep (hp i) (nVal (hp i) G x4 x5) Y⌝ ∗ winP c a19 Y') ∗ homeP c XM (Ring.bk 8 (hp i)) ∗ cellP c (isem (Ring.sl 3 (hp i))) ∗ (∃ v fr, ⌜v = mVal (hp i) G x6 x7 x8 ((mblk (Ring.bk 8 (hp i))).view.read (Elt F) XM)⌝ ∗ outP c (Ring.sl 3 (hp i)) (Ring.bk 8 (hp i)) v f4 fr) ∗ bufP c (oblk (Ring.bk 8 (hp i - 1))) ((oblk (Ring.bk 8 (hp i - 1))).view.writes (Elt F) f2 [⟨Rect.whole S256x8192, v3⟩]) ∗ cellP c (osem (Ring.sl 3 (hp i + 2))) ∗ inP c XM (Ring.sl 3 (hp i + 2)) (Ring.bk 8 (hp i + 2)) f3 ∗ ∃ W, owes (c : Thread nD τ) 0 W)) := by
    have h16' : 16 ≤ (i 0).val := by omega
    have c1 : ¬ cond1 i = 1#1 := fun h => by rw [cond1_iff] at h; omega
    have c2 : ¬ k0_cond2 i = 1#1 := fun h => by rw [cond2_iff] at h; omega
    have c11 : k0_cond11 i = 1#1 := (cond11_iff i).mpr h16'
    have c12 : k0_cond12 i = 1#1 := (cond12_iff i h16').mpr ⟨h17, h21⟩
    have c13 : k0_cond13 i = 1#1 := (cond13_iff i h16').mpr (by omega)
    have c14 : ¬ cond14 i = 1#1 := fun h => by rw [cond14_iff] at h; omega
    haveI : ClosedOff (k0_off13 i 0#32) := ⟨_, off13_eq i c11 0⟩
    haveI : ClosedOff (k0_off13 i 1024#32) := ⟨_, off13_eq i c11 1⟩
    haveI : ClosedOff (k0_off13 i 2048#32) := ⟨_, off13_eq i c11 2⟩
    haveI : ClosedOff (k0_off13 i 3072#32) := ⟨_, off13_eq i c11 3⟩
    haveI : ClosedOff (k0_off14 i) := ⟨_, off14_eq i c11⟩
    haveI : ClosedOff (k0_off15 i) := ⟨_, off15_eq i c11⟩
    iintro ⟨⟨H4, H5, H6, H7, H8⟩, HG, HN, HF, HC, HO, HQ, HI, HM, HW⟩
    simp only [bodyG, cc0__body_eq_skeleton]; unfold cc0__body_skel
    simp only [k0_part4_eq_skeleton, k0_part5_eq_skeleton, k0_part6_eq_skeleton, k0_part7_eq_skeleton]; unfold k0_part4_skel k0_part5_skel k0_part6_skel k0_part7_skel
    simp only [isem10 i h16', osem10 i h16', slot11 i h16', mblk12 i h16', oblk12 i h16', osem16 i h17, oblk17 i h17, slot18 i h17, isem19 i h16', slot20 i h16', mblk21 i h16' h21]
    sl_exec
    sl_step
    isplitr [HN HG HF_src HF HW HC HQ_dst HQ HI]
    · isplitl [H4]; · iexact H4
      isplitl [H5]; · iexact H5
      isplitl [H6]; · iexact H6
      isplitl [H7]; · iexact H7
      iexact H8
    isplitl [HG]; · iexact HG
    isplitl [HN]
    · ihave HN' := (pointsTo_rep_entails (c : Thread nD τ) a19 _ fullShare) $$ HN
      iexists _
      isplitr [HN']; swap; · iexact HN'
      ipureintro
      dsimp only
      refine nPut (h16 := h16') (v := a19.view) (Y := Y) (G := G) (e := off15_eq i c11) (q0 := ?_) (q2 := ?_) (q3 := ?_) (q5 := ?_) (q4 := ?_)
      · exact rd_colP i c11 0 _ _ _
      · exact rd_colP i c11 2 _ _ _
      · exact rd_colP i c11 3 _ _ _
      · exact rd_colN1 i c11 _ _ _
      · exact rd_colN i c11 _ _ _
    isplitl [HF_src]; · iexact HF_src
    isplitl [HF]; · iexact HF
    isplitl [HC]
    · iexists _; iexists _
      isplitr [HC]; swap; · iexact HC
      ipureintro
      refine mPut (v := (rslot (Ring.sl 3 (hp i))).view) (G := G) (qL := ?_) (qR := ?_) ..
      · dsimp only
        refine mPutL (G := G) (q0 := ?_) (q1 := ?_) (q2 := ?_) (q3 := ?_) (q6 := ?_) (q7 := ?_) (q8 := ?_) (qL := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovL _ _ _
      · dsimp only
        refine mPutR (G := G) (q0 := ?_) (q1 := ?_) (q2 := ?_) (q3 := ?_) (q6 := ?_) (q7 := ?_) (q8 := ?_) (qR := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovR _ _ _ _ _
    isplitl [HQ_dst]; · iexact HQ_dst
    isplitl [HQ]; · iexact HQ
    isplitl [HI]; · iexact HI
    iexists _; iexact HW

set_option maxHeartbeats 2000000 in
/-- The seventh pair: nothing is left to send for. -/
theorem runPair6 (h22 : (i 0).val = 22) (G : S256x4096.Idx → Elt F .f32) (Y : S256x1024.Idx → Elt F .f32) (XM : Buf (Elt F) (mM.view.loc (c : Thread nD τ))) (f1 f4) (W) :
    iprop(winB (F := F) c a4 a5 a6 a7 a8 x4 x5 x6 x7 x8 ∗ winP c gM G ∗ winP c a19 Y ∗ inP c XM (Ring.sl 3 (hp i)) (Ring.bk 8 (hp i)) f1 ∗ cellP c (osem (Ring.sl 3 (hp i))) ∗ bufP c (oblk (Ring.bk 8 (hp i))) f4 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep (hp i) (nVal (hp i) G x4 x5) Y⌝ ∗ winP c a19 Y') ∗ homeP c XM (Ring.bk 8 (hp i)) ∗ cellP c (isem (Ring.sl 3 (hp i))) ∗ (∃ v fr, ⌜v = mVal (hp i) G x6 x7 x8 ((mblk (Ring.bk 8 (hp i))).view.read (Elt F) XM)⌝ ∗ outP c (Ring.sl 3 (hp i)) (Ring.bk 8 (hp i)) v f4 fr) ∗ ∃ W, owes (c : Thread nD τ) 0 W)) := by
    have h16' : 16 ≤ (i 0).val := by omega
    have c1 : ¬ cond1 i = 1#1 := fun h => by rw [cond1_iff] at h; omega
    have c2 : ¬ k0_cond2 i = 1#1 := fun h => by rw [cond2_iff] at h; omega
    have c11 : k0_cond11 i = 1#1 := (cond11_iff i).mpr h16'
    have c12 : ¬ k0_cond12 i = 1#1 := fun h => by rw [cond12_iff i h16'] at h; omega
    have c13 : ¬ k0_cond13 i = 1#1 := fun h => by rw [cond13_iff i h16'] at h; omega
    have c14 : ¬ cond14 i = 1#1 := fun h => by rw [cond14_iff] at h; omega
    haveI : ClosedOff (k0_off13 i 0#32) := ⟨_, off13_eq i c11 0⟩
    haveI : ClosedOff (k0_off13 i 1024#32) := ⟨_, off13_eq i c11 1⟩
    haveI : ClosedOff (k0_off13 i 2048#32) := ⟨_, off13_eq i c11 2⟩
    haveI : ClosedOff (k0_off13 i 3072#32) := ⟨_, off13_eq i c11 3⟩
    haveI : ClosedOff (k0_off14 i) := ⟨_, off14_eq i c11⟩
    haveI : ClosedOff (k0_off15 i) := ⟨_, off15_eq i c11⟩
    iintro ⟨⟨H4, H5, H6, H7, H8⟩, HG, HN, HF, HC, HO, HW⟩
    simp only [bodyG, cc0__body_eq_skeleton]; unfold cc0__body_skel
    simp only [k0_part4_eq_skeleton, k0_part5_eq_skeleton, k0_part6_eq_skeleton, k0_part7_eq_skeleton]; unfold k0_part4_skel k0_part5_skel k0_part6_skel k0_part7_skel
    simp only [isem10 i h16', osem10 i h16', slot11 i h16', mblk12 i h16', oblk12 i h16']
    sl_exec
    sl_step
    isplitr [HN HG HF_src HF HW HC ]
    · isplitl [H4]; · iexact H4
      isplitl [H5]; · iexact H5
      isplitl [H6]; · iexact H6
      isplitl [H7]; · iexact H7
      iexact H8
    isplitl [HG]; · iexact HG
    isplitl [HN]
    · ihave HN' := (pointsTo_rep_entails (c : Thread nD τ) a19 _ fullShare) $$ HN
      iexists _
      isplitr [HN']; swap; · iexact HN'
      ipureintro
      dsimp only
      refine nPut (h16 := h16') (v := a19.view) (Y := Y) (G := G) (e := off15_eq i c11) (q0 := ?_) (q2 := ?_) (q3 := ?_) (q5 := ?_) (q4 := ?_)
      · exact rd_colP i c11 0 _ _ _
      · exact rd_colP i c11 2 _ _ _
      · exact rd_colP i c11 3 _ _ _
      · exact rd_colN1 i c11 _ _ _
      · exact rd_colN i c11 _ _ _
    isplitl [HF_src]; · iexact HF_src
    isplitl [HF]; · iexact HF
    isplitl [HC]
    · iexists _; iexists _
      isplitr [HC]; swap; · iexact HC
      ipureintro
      refine mPut (v := (rslot (Ring.sl 3 (hp i))).view) (G := G) (qL := ?_) (qR := ?_) ..
      · dsimp only
        refine mPutL (G := G) (q0 := ?_) (q1 := ?_) (q2 := ?_) (q3 := ?_) (q6 := ?_) (q7 := ?_) (q8 := ?_) (qL := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovL _ _ _
      · dsimp only
        refine mPutR (G := G) (q0 := ?_) (q1 := ?_) (q2 := ?_) (q3 := ?_) (q6 := ?_) (q7 := ?_) (q8 := ?_) (qR := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovR _ _ _ _ _
    iexists _; iexact HW

set_option maxHeartbeats 2000000 in
/-- The last pair: everything on its way out is waited for. -/
theorem runPair7 (h23 : (i 0).val = 23) (G : S256x4096.Idx → Elt F .f32) (Y : S256x1024.Idx → Elt F .f32) (XM : Buf (Elt F) (mM.view.loc (c : Thread nD τ))) (f1 f4 v5 fo5 fr5 v6 fo6 fr6) (W) :
    iprop(winB (F := F) c a4 a5 a6 a7 a8 x4 x5 x6 x7 x8 ∗ winP c gM G ∗ winP c a19 Y ∗ inP c XM 1 7 f1 ∗ cellP c (osem 1) ∗ bufP c (oblk 7) f4 ∗ outP c 2 5 v5 fo5 fr5 ∗ outP c 0 6 v6 fo6 fr6 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep (hp i) (nVal (hp i) G x4 x5) Y⌝ ∗ winP c a19 Y') ∗ homeP c XM 7 ∗ cellP c (isem 1) ∗ (∃ v, ⌜v = mVal (hp i) G x6 x7 x8 ((mblk 7).view.read (Elt F) XM)⌝ ∗ bufP c (oblk 7) ((oblk 7).view.writes (Elt F) f4 [⟨Rect.whole S256x8192, v⟩])) ∗ bufP c (oblk 5) ((oblk 5).view.writes (Elt F) fo5 [⟨Rect.whole S256x8192, v5⟩]) ∗ bufP c (oblk 6) ((oblk 6).view.writes (Elt F) fo6 [⟨Rect.whole S256x8192, v6⟩]) ∗ (∃ f, bufP c (rslot 1) f) ∗ bufP c (rslot 2) fr5 ∗ bufP c (rslot 0) fr6 ∗ cellP c (osem 1) ∗ cellP c (osem 2) ∗ cellP c (osem 0) ∗ ∃ W, owes (c : Thread nD τ) 0 W)) := by
    have h16' : 16 ≤ (i 0).val := by omega
    have c1 : ¬ cond1 i = 1#1 := fun h => by rw [cond1_iff] at h; omega
    have c2 : ¬ k0_cond2 i = 1#1 := fun h => by rw [cond2_iff] at h; omega
    have c11 : k0_cond11 i = 1#1 := (cond11_iff i).mpr h16'
    have c12 : ¬ k0_cond12 i = 1#1 := fun h => by rw [cond12_iff i h16'] at h; omega
    have c13 : ¬ k0_cond13 i = 1#1 := fun h => by rw [cond13_iff i h16'] at h; omega
    have c14 : cond14 i = 1#1 := (cond14_iff i).mpr h23
    have hs : Ring.sl 3 (hp i) = 1 := by unfold hp; rw [h23]; rfl
    have hb : Ring.bk 8 (hp i) = 7 := by unfold hp; rw [h23]; rfl
    haveI : ClosedOff (k0_off13 i 0#32) := ⟨_, off13_eq i c11 0⟩
    haveI : ClosedOff (k0_off13 i 1024#32) := ⟨_, off13_eq i c11 1⟩
    haveI : ClosedOff (k0_off13 i 2048#32) := ⟨_, off13_eq i c11 2⟩
    haveI : ClosedOff (k0_off13 i 3072#32) := ⟨_, off13_eq i c11 3⟩
    haveI : ClosedOff (k0_off14 i) := ⟨_, off14_eq i c11⟩
    haveI : ClosedOff (k0_off15 i) := ⟨_, off15_eq i c11⟩
    iintro ⟨⟨H4, H5, H6, H7, H8⟩, HG, HN, HF, HC, HO, HQ5, HQ6, HW⟩
    simp only [bodyG, cc0__body_eq_skeleton]; unfold cc0__body_skel
    simp only [k0_part4_eq_skeleton, k0_part5_eq_skeleton, k0_part6_eq_skeleton, k0_part7_eq_skeleton]; unfold k0_part4_skel k0_part5_skel k0_part6_skel k0_part7_skel
    simp only [isem10 i h16', osem10 i h16', slot11 i h16', mblk12 i h16', oblk12 i h16', hs, hb, osemL0, osemL1, osemL2, slotL0, slotL1, slotL2, oblkL5, oblkL6, oblkL7]
    sl_exec
    sl_step
    isplitr [HN HG HF_src HF HW HO HF_dst HQ5_dst HQ6_dst HQ5_src HQ6_src HC HQ5 HQ6]
    · isplitl [H4]; · iexact H4
      isplitl [H5]; · iexact H5
      isplitl [H6]; · iexact H6
      isplitl [H7]; · iexact H7
      iexact H8
    isplitl [HG]; · iexact HG
    isplitl [HN]
    · ihave HN' := (pointsTo_rep_entails (c : Thread nD τ) a19 _ fullShare) $$ HN
      iexists _
      isplitr [HN']; swap; · iexact HN'
      ipureintro
      dsimp only
      refine nPut (h16 := h16') (v := a19.view) (Y := Y) (G := G) (e := off15_eq i c11) (q0 := ?_) (q2 := ?_) (q3 := ?_) (q5 := ?_) (q4 := ?_)
      · exact rd_colP i c11 0 _ _ _
      · exact rd_colP i c11 2 _ _ _
      · exact rd_colP i c11 3 _ _ _
      · exact rd_colN1 i c11 _ _ _
      · exact rd_colN i c11 _ _ _
    isplitl [HF_src]; · iexact HF_src
    isplitl [HF]; · iexact HF
    isplitl [HO]
    · iexists _
      isplitr [HO]; swap; · iexact HO
      ipureintro
      refine mPut (v := (rslot 1).view) (G := G) (qL := ?_) (qR := ?_) ..
      · dsimp only
        refine mPutL (G := G) (q0 := ?_) (q1 := ?_) (q2 := ?_) (q3 := ?_) (q6 := ?_) (q7 := ?_) (q8 := ?_) (qL := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovL _ _ _
      · dsimp only
        refine mPutR (G := G) (q0 := ?_) (q1 := ?_) (q2 := ?_) (q3 := ?_) (q6 := ?_) (q7 := ?_) (q8 := ?_) (qR := ?_) ..
        · exact rd_colP i c11 0 _ _ _
        · exact rd_colP i c11 1 _ _ _
        · exact rd_colP i c11 2 _ _ _
        · exact rd_colP i c11 3 _ _ _
        · exact View.readAt_rep_full _ _ _
        · exact View.readAt_rep_full _ _ _
        · exact View.readAt_rep_full _ _ _
        · exact rdCovR _ _ _ _ _
    isplitl [HQ5_dst]; · iexact HQ5_dst
    isplitl [HQ6_dst]; · iexact HQ6_dst
    isplitl [HF_dst]; · iexists _; iexact HF_dst
    isplitl [HQ5_src]; · iexact HQ5_src
    isplitl [HQ6_src]; · iexact HQ6_src
    isplitl [HC]; · iexact HC
    isplitl [HQ5]; · iexact HQ5
    isplitl [HQ6]; · iexact HQ6
    iexists _; iexact HW

end Body

end Cert.Proof.I

end
-- ==== Proof.IdealStep.lean ====
/- The pairs of the ring, one grid point after another. -/
module

public import proofs.«01_k».proof.Proof.IdealBody

@[expose] public section

set_option maxRecDepth 16384

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf UD)

variable {F : FTy → Type} [FloatOps F]

local notation "𝕄" => MT nD τ sig Unit (Elt F) ℕ (UD sig nD τ) ℕ

/-! ## What each pair's pieces can be -/

section States
variable (c : Dev nD) (XM : Buf (Elt F) (mM.view.loc (c : Thread nD τ))) (XO : Buf (Elt F) (oM.view.loc (c : Thread nD τ))) (vO : Fin 8 → S256x8192.Idx → Elt F .f32)

/-- Pair `b` of the result, not yet written. -/
abbrev freshP (b : Fin 8) : sProp 𝕄 := (oblk b).view.loc (c : Thread nD τ) ↦[(oblk b).view.set]{fullShare} XO
/-- Pair `b` of the result, holding its value. -/
abbrev doneP (b : Fin 8) : sProp 𝕄 := winP c (oblk b) (vO b)
/-- Pair `b` on its way into slot `s`. -/
abbrev inF (s : Fin 3) (b : Fin 8) : sProp 𝕄 := iprop(∃ f, inP c XM s b f)
/-- Pair `b`'s value on its way out of slot `s`. -/
abbrev outF (s : Fin 3) (b : Fin 8) : sProp 𝕄 := iprop(∃ v fo fr, ⌜v = vO b⌝ ∗ outP c s b v fo fr)
/-- Slot `s` free. -/
abbrev freeP (s : Fin 3) : sProp 𝕄 := iprop(∃ f, bufP c (rslot s) f)

/-- A landed pair of the result holds its value. -/
theorem done_of (b : Fin 8) (v) (fo) (hv : v = vO b) :
    (bufP c (oblk b) ((oblk b).view.writes (Elt F) fo [⟨Rect.whole S256x8192, v⟩]) : sProp 𝕄) ⊢ doneP c vO b :=
  pointsTo_rep_of_read (c : Thread nD τ) (oblk b) _ fullShare _ (by rw [View.read_writes_whole]; exact hv)

/-- The ring and the two arrays: 0 before the first point, `k + 1` before pair `k` (and through the projections, for `k = 0`), 9 after the last. -/
def St : ℕ → sProp 𝕄
  | 0 => iprop(homeP c XM 0 ∗ homeP c XM 1 ∗ homeP c XM 2 ∗ homeP c XM 3 ∗ homeP c XM 4 ∗ homeP c XM 5 ∗ homeP c XM 6 ∗ homeP c XM 7 ∗ freshP c XO 0 ∗ freshP c XO 1 ∗ freshP c XO 2 ∗ freshP c XO 3 ∗ freshP c XO 4 ∗ freshP c XO 5 ∗ freshP c XO 6 ∗ freshP c XO 7 ∗ cellP c (isem 0) ∗ cellP c (isem 1) ∗ cellP c (isem 2) ∗ cellP c (osem 0) ∗ cellP c (osem 1) ∗ cellP c (osem 2) ∗ freeP c 0 ∗ freeP c 1 ∗ freeP c 2)
  | 1 => iprop(homeP c XM 2 ∗ homeP c XM 3 ∗ homeP c XM 4 ∗ homeP c XM 5 ∗ homeP c XM 6 ∗ homeP c XM 7 ∗ freshP c XO 0 ∗ freshP c XO 1 ∗ freshP c XO 2 ∗ freshP c XO 3 ∗ freshP c XO 4 ∗ freshP c XO 5 ∗ freshP c XO 6 ∗ freshP c XO 7 ∗ inF c XM 0 0 ∗ inF c XM 1 1 ∗ cellP c (isem 2) ∗ cellP c (osem 0) ∗ cellP c (osem 1) ∗ cellP c (osem 2) ∗ freeP c 2)
  | 2 => iprop(homeP c XM 0 ∗ homeP c XM 3 ∗ homeP c XM 4 ∗ homeP c XM 5 ∗ homeP c XM 6 ∗ homeP c XM 7 ∗ freshP c XO 1 ∗ freshP c XO 2 ∗ freshP c XO 3 ∗ freshP c XO 4 ∗ freshP c XO 5 ∗ freshP c XO 6 ∗ freshP c XO 7 ∗ cellP c (isem 0) ∗ inF c XM 1 1 ∗ inF c XM 2 2 ∗ outF c vO 0 0 ∗ cellP c (osem 1) ∗ cellP c (osem 2))
  | 3 => iprop(homeP c XM 0 ∗ homeP c XM 1 ∗ homeP c XM 4 ∗ homeP c XM 5 ∗ homeP c XM 6 ∗ homeP c XM 7 ∗ doneP c vO 0 ∗ freshP c XO 2 ∗ freshP c XO 3 ∗ freshP c XO 4 ∗ freshP c XO 5 ∗ freshP c XO 6 ∗ freshP c XO 7 ∗ inF c XM 0 3 ∗ cellP c (isem 1) ∗ inF c XM 2 2 ∗ cellP c (osem 0) ∗ outF c vO 1 1 ∗ cellP c (osem 2))
  | 4 => iprop(homeP c XM 0 ∗ homeP c XM 1 ∗ homeP c XM 2 ∗ homeP c XM 5 ∗ homeP c XM 6 ∗ homeP c XM 7 ∗ doneP c vO 0 ∗ doneP c vO 1 ∗ freshP c XO 3 ∗ freshP c XO 4 ∗ freshP c XO 5 ∗ freshP c XO 6 ∗ freshP c XO 7 ∗ inF c XM 0 3 ∗ inF c XM 1 4 ∗ cellP c (isem 2) ∗ cellP c (osem 0) ∗ cellP c (osem 1) ∗ outF c vO 2 2)
  | 5 => iprop(homeP c XM 0 ∗ homeP c XM 1 ∗ homeP c XM 2 ∗ homeP c XM 3 ∗ homeP c XM 6 ∗ homeP c XM 7 ∗ doneP c vO 0 ∗ doneP c vO 1 ∗ doneP c vO 2 ∗ freshP c XO 4 ∗ freshP c XO 5 ∗ freshP c XO 6 ∗ freshP c XO 7 ∗ cellP c (isem 0) ∗ inF c XM 1 4 ∗ inF c XM 2 5 ∗ outF c vO 0 3 ∗ cellP c (osem 1) ∗ cellP c (osem 2))
  | 6 => iprop(homeP c XM 0 ∗ homeP c XM 1 ∗ homeP c XM 2 ∗ homeP c XM 3 ∗ homeP c XM 4 ∗ homeP c XM 7 ∗ doneP c vO 0 ∗ doneP c vO 1 ∗ doneP c vO 2 ∗ doneP c vO 3 ∗ freshP c XO 5 ∗ freshP c XO 6 ∗ freshP c XO 7 ∗ inF c XM 0 6 ∗ cellP c (isem 1) ∗ inF c XM 2 5 ∗ cellP c (osem 0) ∗ outF c vO 1 4 ∗ cellP c (osem 2))
  | 7 => iprop(homeP c XM 0 ∗ homeP c XM 1 ∗ homeP c XM 2 ∗ homeP c XM 3 ∗ homeP c XM 4 ∗ homeP c XM 5 ∗ doneP c vO 0 ∗ doneP c vO 1 ∗ doneP c vO 2 ∗ doneP c vO 3 ∗ doneP c vO 4 ∗ freshP c XO 6 ∗ freshP c XO 7 ∗ inF c XM 0 6 ∗ inF c XM 1 7 ∗ cellP c (isem 2) ∗ cellP c (osem 0) ∗ cellP c (osem 1) ∗ outF c vO 2 5)
  | 8 => iprop(homeP c XM 0 ∗ homeP c XM 1 ∗ homeP c XM 2 ∗ homeP c XM 3 ∗ homeP c XM 4 ∗ homeP c XM 5 ∗ homeP c XM 6 ∗ doneP c vO 0 ∗ doneP c vO 1 ∗ doneP c vO 2 ∗ doneP c vO 3 ∗ doneP c vO 4 ∗ freshP c XO 7 ∗ cellP c (isem 0) ∗ inF c XM 1 7 ∗ cellP c (isem 2) ∗ outF c vO 0 6 ∗ cellP c (osem 1) ∗ outF c vO 2 5)
  | _ => iprop(homeP c XM 0 ∗ homeP c XM 1 ∗ homeP c XM 2 ∗ homeP c XM 3 ∗ homeP c XM 4 ∗ homeP c XM 5 ∗ homeP c XM 6 ∗ homeP c XM 7 ∗ doneP c vO 0 ∗ doneP c vO 1 ∗ doneP c vO 2 ∗ doneP c vO 3 ∗ doneP c vO 4 ∗ doneP c vO 5 ∗ doneP c vO 6 ∗ doneP c vO 7 ∗ cellP c (isem 0) ∗ cellP c (isem 1) ∗ cellP c (isem 2) ∗ cellP c (osem 0) ∗ cellP c (osem 1) ∗ cellP c (osem 2) ∗ freeP c 0 ∗ freeP c 1 ∗ freeP c 2)

theorem St_0 : St c XM XO vO 0 = iprop(homeP c XM 0 ∗ homeP c XM 1 ∗ homeP c XM 2 ∗ homeP c XM 3 ∗ homeP c XM 4 ∗ homeP c XM 5 ∗ homeP c XM 6 ∗ homeP c XM 7 ∗ freshP c XO 0 ∗ freshP c XO 1 ∗ freshP c XO 2 ∗ freshP c XO 3 ∗ freshP c XO 4 ∗ freshP c XO 5 ∗ freshP c XO 6 ∗ freshP c XO 7 ∗ cellP c (isem 0) ∗ cellP c (isem 1) ∗ cellP c (isem 2) ∗ cellP c (osem 0) ∗ cellP c (osem 1) ∗ cellP c (osem 2) ∗ freeP c 0 ∗ freeP c 1 ∗ freeP c 2) := rfl
theorem St_1 : St c XM XO vO 1 = iprop(homeP c XM 2 ∗ homeP c XM 3 ∗ homeP c XM 4 ∗ homeP c XM 5 ∗ homeP c XM 6 ∗ homeP c XM 7 ∗ freshP c XO 0 ∗ freshP c XO 1 ∗ freshP c XO 2 ∗ freshP c XO 3 ∗ freshP c XO 4 ∗ freshP c XO 5 ∗ freshP c XO 6 ∗ freshP c XO 7 ∗ inF c XM 0 0 ∗ inF c XM 1 1 ∗ cellP c (isem 2) ∗ cellP c (osem 0) ∗ cellP c (osem 1) ∗ cellP c (osem 2) ∗ freeP c 2) := rfl
theorem St_2 : St c XM XO vO 2 = iprop(homeP c XM 0 ∗ homeP c XM 3 ∗ homeP c XM 4 ∗ homeP c XM 5 ∗ homeP c XM 6 ∗ homeP c XM 7 ∗ freshP c XO 1 ∗ freshP c XO 2 ∗ freshP c XO 3 ∗ freshP c XO 4 ∗ freshP c XO 5 ∗ freshP c XO 6 ∗ freshP c XO 7 ∗ cellP c (isem 0) ∗ inF c XM 1 1 ∗ inF c XM 2 2 ∗ outF c vO 0 0 ∗ cellP c (osem 1) ∗ cellP c (osem 2)) := rfl
theorem St_3 : St c XM XO vO 3 = iprop(homeP c XM 0 ∗ homeP c XM 1 ∗ homeP c XM 4 ∗ homeP c XM 5 ∗ homeP c XM 6 ∗ homeP c XM 7 ∗ doneP c vO 0 ∗ freshP c XO 2 ∗ freshP c XO 3 ∗ freshP c XO 4 ∗ freshP c XO 5 ∗ freshP c XO 6 ∗ freshP c XO 7 ∗ inF c XM 0 3 ∗ cellP c (isem 1) ∗ inF c XM 2 2 ∗ cellP c (osem 0) ∗ outF c vO 1 1 ∗ cellP c (osem 2)) := rfl
theorem St_4 : St c XM XO vO 4 = iprop(homeP c XM 0 ∗ homeP c XM 1 ∗ homeP c XM 2 ∗ homeP c XM 5 ∗ homeP c XM 6 ∗ homeP c XM 7 ∗ doneP c vO 0 ∗ doneP c vO 1 ∗ freshP c XO 3 ∗ freshP c XO 4 ∗ freshP c XO 5 ∗ freshP c XO 6 ∗ freshP c XO 7 ∗ inF c XM 0 3 ∗ inF c XM 1 4 ∗ cellP c (isem 2) ∗ cellP c (osem 0) ∗ cellP c (osem 1) ∗ outF c vO 2 2) := rfl
theorem St_5 : St c XM XO vO 5 = iprop(homeP c XM 0 ∗ homeP c XM 1 ∗ homeP c XM 2 ∗ homeP c XM 3 ∗ homeP c XM 6 ∗ homeP c XM 7 ∗ doneP c vO 0 ∗ doneP c vO 1 ∗ doneP c vO 2 ∗ freshP c XO 4 ∗ freshP c XO 5 ∗ freshP c XO 6 ∗ freshP c XO 7 ∗ cellP c (isem 0) ∗ inF c XM 1 4 ∗ inF c XM 2 5 ∗ outF c vO 0 3 ∗ cellP c (osem 1) ∗ cellP c (osem 2)) := rfl
theorem St_6 : St c XM XO vO 6 = iprop(homeP c XM 0 ∗ homeP c XM 1 ∗ homeP c XM 2 ∗ homeP c XM 3 ∗ homeP c XM 4 ∗ homeP c XM 7 ∗ doneP c vO 0 ∗ doneP c vO 1 ∗ doneP c vO 2 ∗ doneP c vO 3 ∗ freshP c XO 5 ∗ freshP c XO 6 ∗ freshP c XO 7 ∗ inF c XM 0 6 ∗ cellP c (isem 1) ∗ inF c XM 2 5 ∗ cellP c (osem 0) ∗ outF c vO 1 4 ∗ cellP c (osem 2)) := rfl
theorem St_7 : St c XM XO vO 7 = iprop(homeP c XM 0 ∗ homeP c XM 1 ∗ homeP c XM 2 ∗ homeP c XM 3 ∗ homeP c XM 4 ∗ homeP c XM 5 ∗ doneP c vO 0 ∗ doneP c vO 1 ∗ doneP c vO 2 ∗ doneP c vO 3 ∗ doneP c vO 4 ∗ freshP c XO 6 ∗ freshP c XO 7 ∗ inF c XM 0 6 ∗ inF c XM 1 7 ∗ cellP c (isem 2) ∗ cellP c (osem 0) ∗ cellP c (osem 1) ∗ outF c vO 2 5) := rfl
theorem St_8 : St c XM XO vO 8 = iprop(homeP c XM 0 ∗ homeP c XM 1 ∗ homeP c XM 2 ∗ homeP c XM 3 ∗ homeP c XM 4 ∗ homeP c XM 5 ∗ homeP c XM 6 ∗ doneP c vO 0 ∗ doneP c vO 1 ∗ doneP c vO 2 ∗ doneP c vO 3 ∗ doneP c vO 4 ∗ freshP c XO 7 ∗ cellP c (isem 0) ∗ inF c XM 1 7 ∗ cellP c (isem 2) ∗ outF c vO 0 6 ∗ cellP c (osem 1) ∗ outF c vO 2 5) := rfl
theorem St_9 : St c XM XO vO 9 = iprop(homeP c XM 0 ∗ homeP c XM 1 ∗ homeP c XM 2 ∗ homeP c XM 3 ∗ homeP c XM 4 ∗ homeP c XM 5 ∗ homeP c XM 6 ∗ homeP c XM 7 ∗ doneP c vO 0 ∗ doneP c vO 1 ∗ doneP c vO 2 ∗ doneP c vO 3 ∗ doneP c vO 4 ∗ doneP c vO 5 ∗ doneP c vO 6 ∗ doneP c vO 7 ∗ cellP c (isem 0) ∗ cellP c (isem 1) ∗ cellP c (isem 2) ∗ cellP c (osem 0) ∗ cellP c (osem 1) ∗ cellP c (osem 2) ∗ freeP c 0 ∗ freeP c 1 ∗ freeP c 2) := rfl

end States

section Steps
variable (c : Dev nD) (i : grid0.Coords)
  (a1 : Memref sig .tc .vmem S256x1024 .f32) (h1 : a1.IsWhole) (a2 : Memref sig .tc .vmem S256x2 .i32) (h2 : a2.IsWhole) (a3 : Memref sig .tc .vmem S256x2 .f32) (h3 : a3.IsWhole) (a4 : Memref sig .tc .vmem S256x1024 .f32) (h4 : a4.IsWhole) (a5 : Memref sig .tc .vmem S1x1024 .f32) (h5 : a5.IsWhole) (a6 : Memref sig .tc .vmem S1x4096 .f32) (h6 : a6.IsWhole) (a7 : Memref sig .tc .vmem S64x4096 .bf16) (h7 : a7.IsWhole) (a8 : Memref sig .tc .vmem S64x4096 .bf16) (h8 : a8.IsWhole) (a9 : Memref sig .tc .vmem S1x1024x256 .f32) (h9 : a9.IsWhole) (a10 : Memref sig .tc .vmem S4x1x1024 .f32) (h10 : a10.IsWhole) (a11 : Memref sig .tc .vmem S1x1024x256 .f32) (h11 : a11.IsWhole) (a12 : Memref sig .tc .vmem S4x1x1024 .f32) (h12 : a12.IsWhole) (a13 : Memref sig .tc .vmem S1x1024x256 .f32) (h13 : a13.IsWhole) (a14 : Memref sig .tc .vmem S4x1x1024 .f32) (h14 : a14.IsWhole) (a15 : Memref sig .tc .vmem S1x1024x256 .f32) (h15 : a15.IsWhole) (a16 : Memref sig .tc .vmem S4x1x1024 .f32) (h16 : a16.IsWhole) (a19 : Memref sig .tc .vmem S256x1024 .f32) (h19 : a19.IsWhole)
  (x1 : S256x1024.Idx → Elt F .f32) (x2 : S256x2.Idx → Elt F .i32) (x3 : S256x2.Idx → Elt F .f32) (x4 : S256x1024.Idx → Elt F .f32) (x5 : S1x1024.Idx → Elt F .f32) (x6 : S1x4096.Idx → Elt F .f32) (x7 : S64x4096.Idx → Elt F .bf16) (x8 : S64x4096.Idx → Elt F .bf16) (x9 : S1x1024x256.Idx → Elt F .f32) (x10 : S4x1x1024.Idx → Elt F .f32) (x11 : S1x1024x256.Idx → Elt F .f32) (x12 : S4x1x1024.Idx → Elt F .f32) (x13 : S1x1024x256.Idx → Elt F .f32) (x14 : S4x1x1024.Idx → Elt F .f32) (x15 : S1x1024x256.Idx → Elt F .f32) (x16 : S4x1x1024.Idx → Elt F .f32)

theorem runPair0' (k : ℕ) (s s2 : Fin 3) (b bm b2 : Fin 8) (ek : hp i = k) (es : Ring.sl 3 k = s) (es2 : Ring.sl 3 (k + 2) = s2) (eb : Ring.bk 8 k = b) (ebm : Ring.bk 8 (k - 1) = bm) (eb2 : Ring.bk 8 (k + 2) = b2) (hz : (i 0).val = 16) (G : S256x4096.Idx → Elt F .f32) (Y : S256x1024.Idx → Elt F .f32) (XM : Buf (Elt F) (mM.view.loc (c : Thread nD τ))) (f1 f3 f4) (W) :
    iprop(winB (F := F) c a4 a5 a6 a7 a8 x4 x5 x6 x7 x8 ∗ winP c gM G ∗ winP c a19 Y ∗ inP c XM s b f1 ∗ cellP c (osem s) ∗ bufP c (oblk b) f4 ∗ bufP c (rslot s2) f3 ∗ cellP c (isem s2) ∗ homeP c XM b2 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep k (nVal k G x4 x5) Y⌝ ∗ winP c a19 Y') ∗ homeP c XM b ∗ cellP c (isem s) ∗ (∃ v fr, ⌜v = mVal k G x6 x7 x8 ((mblk b).view.read (Elt F) XM)⌝ ∗ outP c s b v f4 fr) ∗ inP c XM s2 b2 f3 ∗ ∃ W, owes (c : Thread nD τ) 0 W)) := by
  subst ek es es2 eb ebm eb2
  exact runPair0 c i a1 h1 a2 h2 a3 h3 a4 h4 a5 h5 a6 h6 a7 h7 a8 h8 a9 h9 a10 h10 a11 h11 a12 h12 a13 h13 a14 h14 a15 h15 a16 h16 a19 h19 x4 x5 x6 x7 x8 hz G Y XM f1 f3 f4 W

theorem runMid' (k : ℕ) (s s2 : Fin 3) (b bm b2 : Fin 8) (ek : hp i = k) (es : Ring.sl 3 k = s) (es2 : Ring.sl 3 (k + 2) = s2) (eb : Ring.bk 8 k = b) (ebm : Ring.bk 8 (k - 1) = bm) (eb2 : Ring.bk 8 (k + 2) = b2) (h17 : 17 ≤ (i 0).val) (h21 : (i 0).val ≤ 21) (G : S256x4096.Idx → Elt F .f32) (Y : S256x1024.Idx → Elt F .f32) (XM : Buf (Elt F) (mM.view.loc (c : Thread nD τ))) (f1 f2 f3 v3 f4) (W) :
    iprop(winB (F := F) c a4 a5 a6 a7 a8 x4 x5 x6 x7 x8 ∗ winP c gM G ∗ winP c a19 Y ∗ inP c XM s b f1 ∗ cellP c (osem s) ∗ bufP c (oblk b) f4 ∗ outP c s2 bm v3 f2 f3 ∗ cellP c (isem s2) ∗ homeP c XM b2 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep k (nVal k G x4 x5) Y⌝ ∗ winP c a19 Y') ∗ homeP c XM b ∗ cellP c (isem s) ∗ (∃ v fr, ⌜v = mVal k G x6 x7 x8 ((mblk b).view.read (Elt F) XM)⌝ ∗ outP c s b v f4 fr) ∗ bufP c (oblk bm) ((oblk bm).view.writes (Elt F) f2 [⟨Rect.whole S256x8192, v3⟩]) ∗ cellP c (osem s2) ∗ inP c XM s2 b2 f3 ∗ ∃ W, owes (c : Thread nD τ) 0 W)) := by
  subst ek es es2 eb ebm eb2
  exact runMid c i a1 h1 a2 h2 a3 h3 a4 h4 a5 h5 a6 h6 a7 h7 a8 h8 a9 h9 a10 h10 a11 h11 a12 h12 a13 h13 a14 h14 a15 h15 a16 h16 a19 h19 x4 x5 x6 x7 x8 h17 h21 G Y XM f1 f2 f3 v3 f4 W

theorem runPair6' (k : ℕ) (s s2 : Fin 3) (b bm b2 : Fin 8) (ek : hp i = k) (es : Ring.sl 3 k = s) (es2 : Ring.sl 3 (k + 2) = s2) (eb : Ring.bk 8 k = b) (ebm : Ring.bk 8 (k - 1) = bm) (eb2 : Ring.bk 8 (k + 2) = b2) (h22 : (i 0).val = 22) (G : S256x4096.Idx → Elt F .f32) (Y : S256x1024.Idx → Elt F .f32) (XM : Buf (Elt F) (mM.view.loc (c : Thread nD τ))) (f1 f4) (W) :
    iprop(winB (F := F) c a4 a5 a6 a7 a8 x4 x5 x6 x7 x8 ∗ winP c gM G ∗ winP c a19 Y ∗ inP c XM s b f1 ∗ cellP c (osem s) ∗ bufP c (oblk b) f4 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep k (nVal k G x4 x5) Y⌝ ∗ winP c a19 Y') ∗ homeP c XM b ∗ cellP c (isem s) ∗ (∃ v fr, ⌜v = mVal k G x6 x7 x8 ((mblk b).view.read (Elt F) XM)⌝ ∗ outP c s b v f4 fr) ∗ ∃ W, owes (c : Thread nD τ) 0 W)) := by
  subst ek es es2 eb ebm eb2
  exact runPair6 c i a1 h1 a2 h2 a3 h3 a4 h4 a5 h5 a6 h6 a7 h7 a8 h8 a9 h9 a10 h10 a11 h11 a12 h12 a13 h13 a14 h14 a15 h15 a16 h16 a19 h19 x4 x5 x6 x7 x8 h22 G Y XM f1 f4 W

theorem step0 (hh : (i 0).val = 16) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 0 = mVal 0 G x6 x7 x8 ((mblk 0).view.read (Elt F) XM)) (W) :
    iprop(winB (F := F) c a4 a5 a6 a7 a8 x4 x5 x6 x7 x8 ∗ winP c gM G ∗ winP c a19 Y ∗ St c XM XO vO 1 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 0 (nVal 0 G x4 x5) Y⌝ ∗ winP c a19 Y') ∗ St c XM XO vO 2 ∗ ∃ W, owes (c : Thread nD τ) 0 W)) := by
  have ek : hp i = 0 := by show (i 0).val - 16 = 0; omega
  rw [St_1, St_2]
  iintro ⟨HB, HG, HY, ⟨Hm2, Hm3, Hm4, Hm5, Hm6, Hm7, Ho0, Ho1, Ho2, Ho3, Ho4, Ho5, Ho6, Ho7, HI0, HI1, Hi2, Hc0, Hc1, Hc2, Hs2⟩, HW⟩
  icases HI0 with ⟨%f1, HI0⟩
  icases Hs2 with ⟨%f3, Hs2⟩
  iapply (wp_wand_r Idealize.ShloMosaic.frame (wpE (defs₀ (F := F)) 𝒱₀ (c : Thread nD τ) none) Set.univ)
  isplitl [HB HG HY HI0 Hc0 Ho0 Hs2 Hi2 Hm2 HW]
  · iapply (runPair0' c i a1 h1 a2 h2 a3 h3 a4 h4 a5 h5 a6 h6 a7 h7 a8 h8 a9 h9 a10 h10 a11 h11 a12 h12 a13 h13 a14 h14 a15 h15 a16 h16 a19 h19 x4 x5 x6 x7 x8 0 0 2 0 0 2 ek rfl rfl rfl rfl rfl (by omega) G Y XM f1 f3 XO W)
    isplitl [HB]; · iexact HB
    isplitl [HG]; · iexact HG
    isplitl [HY]; · iexact HY
    isplitl [HI0]; · iexact HI0
    isplitl [Hc0]; · iexact Hc0
    isplitl [Ho0]; · iexact Ho0
    isplitl [Hs2]; · iexact Hs2
    isplitl [Hi2]; · iexact Hi2
    isplitl [Hm2]; · iexact Hm2
    iexact HW
  iintro %_ ⟨HB, HG, HY, Hm0, Hi0, ⟨%v, %fr, %hv', HO0⟩, HI2, HW⟩
  isplitl [HB]; · iexact HB
  isplitl [HG]; · iexact HG
  isplitl [HY]; · iexact HY
  isplitl [Hm0 Hm3 Hm4 Hm5 Hm6 Hm7 Ho1 Ho2 Ho3 Ho4 Ho5 Ho6 Ho7 Hi0 HI1 HI2 HO0 Hc1 Hc2]
  · isplitl [Hm0]
    · iexact Hm0
    isplitl [Hm3]
    · iexact Hm3
    isplitl [Hm4]
    · iexact Hm4
    isplitl [Hm5]
    · iexact Hm5
    isplitl [Hm6]
    · iexact Hm6
    isplitl [Hm7]
    · iexact Hm7
    isplitl [Ho1]
    · iexact Ho1
    isplitl [Ho2]
    · iexact Ho2
    isplitl [Ho3]
    · iexact Ho3
    isplitl [Ho4]
    · iexact Ho4
    isplitl [Ho5]
    · iexact Ho5
    isplitl [Ho6]
    · iexact Ho6
    isplitl [Ho7]
    · iexact Ho7
    isplitl [Hi0]
    · iexact Hi0
    isplitl [HI1]
    · iexact HI1
    isplitl [HI2]
    · iexists _; iexact HI2
    isplitl [HO0]
    · iexists v, XO, fr; isplitr; (ipureintro; exact hv'.trans hv.symm); iexact HO0
    isplitl [Hc1]
    · iexact Hc1
    iexact Hc2
  iexact HW

theorem step1 (hh : (i 0).val = 17) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 1 = mVal 1 G x6 x7 x8 ((mblk 1).view.read (Elt F) XM)) (W) :
    iprop(winB (F := F) c a4 a5 a6 a7 a8 x4 x5 x6 x7 x8 ∗ winP c gM G ∗ winP c a19 Y ∗ St c XM XO vO 2 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 1 (nVal 1 G x4 x5) Y⌝ ∗ winP c a19 Y') ∗ St c XM XO vO 3 ∗ ∃ W, owes (c : Thread nD τ) 0 W)) := by
  have ek : hp i = 1 := by show (i 0).val - 16 = 1; omega
  rw [St_2, St_3]
  iintro ⟨HB, HG, HY, ⟨Hm0, Hm3, Hm4, Hm5, Hm6, Hm7, Ho1, Ho2, Ho3, Ho4, Ho5, Ho6, Ho7, Hi0, HI1, HI2, HO0, Hc1, Hc2⟩, HW⟩
  icases HI1 with ⟨%f1, HI1⟩
  icases HO0 with ⟨%v3, %f2, %f3, %hv3, HO0⟩
  iapply (wp_wand_r Idealize.ShloMosaic.frame (wpE (defs₀ (F := F)) 𝒱₀ (c : Thread nD τ) none) Set.univ)
  isplitl [HB HG HY HI1 Hc1 Ho1 HO0 Hi0 Hm3 HW]
  · iapply (runMid' c i a1 h1 a2 h2 a3 h3 a4 h4 a5 h5 a6 h6 a7 h7 a8 h8 a9 h9 a10 h10 a11 h11 a12 h12 a13 h13 a14 h14 a15 h15 a16 h16 a19 h19 x4 x5 x6 x7 x8 1 1 0 1 0 3 ek rfl rfl rfl rfl rfl (by omega) (by omega) G Y XM f1 f2 f3 v3 XO W)
    isplitl [HB]; · iexact HB
    isplitl [HG]; · iexact HG
    isplitl [HY]; · iexact HY
    isplitl [HI1]; · iexact HI1
    isplitl [Hc1]; · iexact Hc1
    isplitl [Ho1]; · iexact Ho1
    isplitl [HO0]; · iexact HO0
    isplitl [Hi0]; · iexact Hi0
    isplitl [Hm3]; · iexact Hm3
    iexact HW
  iintro %_ ⟨HB, HG, HY, Hm1, Hi1, ⟨%v, %fr, %hv', HO1⟩, Ho0, Hc0, HI0, HW⟩
  isplitl [HB]; · iexact HB
  isplitl [HG]; · iexact HG
  isplitl [HY]; · iexact HY
  isplitl [Hm0 Hm1 Hm4 Hm5 Hm6 Hm7 Ho0 Ho2 Ho3 Ho4 Ho5 Ho6 Ho7 HI0 Hi1 HI2 Hc0 HO1 Hc2]
  · isplitl [Hm0]
    · iexact Hm0
    isplitl [Hm1]
    · iexact Hm1
    isplitl [Hm4]
    · iexact Hm4
    isplitl [Hm5]
    · iexact Hm5
    isplitl [Hm6]
    · iexact Hm6
    isplitl [Hm7]
    · iexact Hm7
    isplitl [Ho0]
    · iapply (done_of c vO 0 _ _ hv3); iexact Ho0
    isplitl [Ho2]
    · iexact Ho2
    isplitl [Ho3]
    · iexact Ho3
    isplitl [Ho4]
    · iexact Ho4
    isplitl [Ho5]
    · iexact Ho5
    isplitl [Ho6]
    · iexact Ho6
    isplitl [Ho7]
    · iexact Ho7
    isplitl [HI0]
    · iexists _; iexact HI0
    isplitl [Hi1]
    · iexact Hi1
    isplitl [HI2]
    · iexact HI2
    isplitl [Hc0]
    · iexact Hc0
    isplitl [HO1]
    · iexists v, XO, fr; isplitr; (ipureintro; exact hv'.trans hv.symm); iexact HO1
    iexact Hc2
  iexact HW

theorem step2 (hh : (i 0).val = 18) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 2 = mVal 2 G x6 x7 x8 ((mblk 2).view.read (Elt F) XM)) (W) :
    iprop(winB (F := F) c a4 a5 a6 a7 a8 x4 x5 x6 x7 x8 ∗ winP c gM G ∗ winP c a19 Y ∗ St c XM XO vO 3 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 2 (nVal 2 G x4 x5) Y⌝ ∗ winP c a19 Y') ∗ St c XM XO vO 4 ∗ ∃ W, owes (c : Thread nD τ) 0 W)) := by
  have ek : hp i = 2 := by show (i 0).val - 16 = 2; omega
  rw [St_3, St_4]
  iintro ⟨HB, HG, HY, ⟨Hm0, Hm1, Hm4, Hm5, Hm6, Hm7, Ho0, Ho2, Ho3, Ho4, Ho5, Ho6, Ho7, HI0, Hi1, HI2, Hc0, HO1, Hc2⟩, HW⟩
  icases HI2 with ⟨%f1, HI2⟩
  icases HO1 with ⟨%v3, %f2, %f3, %hv3, HO1⟩
  iapply (wp_wand_r Idealize.ShloMosaic.frame (wpE (defs₀ (F := F)) 𝒱₀ (c : Thread nD τ) none) Set.univ)
  isplitl [HB HG HY HI2 Hc2 Ho2 HO1 Hi1 Hm4 HW]
  · iapply (runMid' c i a1 h1 a2 h2 a3 h3 a4 h4 a5 h5 a6 h6 a7 h7 a8 h8 a9 h9 a10 h10 a11 h11 a12 h12 a13 h13 a14 h14 a15 h15 a16 h16 a19 h19 x4 x5 x6 x7 x8 2 2 1 2 1 4 ek rfl rfl rfl rfl rfl (by omega) (by omega) G Y XM f1 f2 f3 v3 XO W)
    isplitl [HB]; · iexact HB
    isplitl [HG]; · iexact HG
    isplitl [HY]; · iexact HY
    isplitl [HI2]; · iexact HI2
    isplitl [Hc2]; · iexact Hc2
    isplitl [Ho2]; · iexact Ho2
    isplitl [HO1]; · iexact HO1
    isplitl [Hi1]; · iexact Hi1
    isplitl [Hm4]; · iexact Hm4
    iexact HW
  iintro %_ ⟨HB, HG, HY, Hm2, Hi2, ⟨%v, %fr, %hv', HO2⟩, Ho1, Hc1, HI1, HW⟩
  isplitl [HB]; · iexact HB
  isplitl [HG]; · iexact HG
  isplitl [HY]; · iexact HY
  isplitl [Hm0 Hm1 Hm2 Hm5 Hm6 Hm7 Ho0 Ho1 Ho3 Ho4 Ho5 Ho6 Ho7 HI0 HI1 Hi2 Hc0 Hc1 HO2]
  · isplitl [Hm0]
    · iexact Hm0
    isplitl [Hm1]
    · iexact Hm1
    isplitl [Hm2]
    · iexact Hm2
    isplitl [Hm5]
    · iexact Hm5
    isplitl [Hm6]
    · iexact Hm6
    isplitl [Hm7]
    · iexact Hm7
    isplitl [Ho0]
    · iexact Ho0
    isplitl [Ho1]
    · iapply (done_of c vO 1 _ _ hv3); iexact Ho1
    isplitl [Ho3]
    · iexact Ho3
    isplitl [Ho4]
    · iexact Ho4
    isplitl [Ho5]
    · iexact Ho5
    isplitl [Ho6]
    · iexact Ho6
    isplitl [Ho7]
    · iexact Ho7
    isplitl [HI0]
    · iexact HI0
    isplitl [HI1]
    · iexists _; iexact HI1
    isplitl [Hi2]
    · iexact Hi2
    isplitl [Hc0]
    · iexact Hc0
    isplitl [Hc1]
    · iexact Hc1
    iexists v, XO, fr; isplitr; (ipureintro; exact hv'.trans hv.symm); iexact HO2
  iexact HW

theorem step3 (hh : (i 0).val = 19) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 3 = mVal 3 G x6 x7 x8 ((mblk 3).view.read (Elt F) XM)) (W) :
    iprop(winB (F := F) c a4 a5 a6 a7 a8 x4 x5 x6 x7 x8 ∗ winP c gM G ∗ winP c a19 Y ∗ St c XM XO vO 4 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 3 (nVal 3 G x4 x5) Y⌝ ∗ winP c a19 Y') ∗ St c XM XO vO 5 ∗ ∃ W, owes (c : Thread nD τ) 0 W)) := by
  have ek : hp i = 3 := by show (i 0).val - 16 = 3; omega
  rw [St_4, St_5]
  iintro ⟨HB, HG, HY, ⟨Hm0, Hm1, Hm2, Hm5, Hm6, Hm7, Ho0, Ho1, Ho3, Ho4, Ho5, Ho6, Ho7, HI0, HI1, Hi2, Hc0, Hc1, HO2⟩, HW⟩
  icases HI0 with ⟨%f1, HI0⟩
  icases HO2 with ⟨%v3, %f2, %f3, %hv3, HO2⟩
  iapply (wp_wand_r Idealize.ShloMosaic.frame (wpE (defs₀ (F := F)) 𝒱₀ (c : Thread nD τ) none) Set.univ)
  isplitl [HB HG HY HI0 Hc0 Ho3 HO2 Hi2 Hm5 HW]
  · iapply (runMid' c i a1 h1 a2 h2 a3 h3 a4 h4 a5 h5 a6 h6 a7 h7 a8 h8 a9 h9 a10 h10 a11 h11 a12 h12 a13 h13 a14 h14 a15 h15 a16 h16 a19 h19 x4 x5 x6 x7 x8 3 0 2 3 2 5 ek rfl rfl rfl rfl rfl (by omega) (by omega) G Y XM f1 f2 f3 v3 XO W)
    isplitl [HB]; · iexact HB
    isplitl [HG]; · iexact HG
    isplitl [HY]; · iexact HY
    isplitl [HI0]; · iexact HI0
    isplitl [Hc0]; · iexact Hc0
    isplitl [Ho3]; · iexact Ho3
    isplitl [HO2]; · iexact HO2
    isplitl [Hi2]; · iexact Hi2
    isplitl [Hm5]; · iexact Hm5
    iexact HW
  iintro %_ ⟨HB, HG, HY, Hm3, Hi0, ⟨%v, %fr, %hv', HO0⟩, Ho2, Hc2, HI2, HW⟩
  isplitl [HB]; · iexact HB
  isplitl [HG]; · iexact HG
  isplitl [HY]; · iexact HY
  isplitl [Hm0 Hm1 Hm2 Hm3 Hm6 Hm7 Ho0 Ho1 Ho2 Ho4 Ho5 Ho6 Ho7 Hi0 HI1 HI2 HO0 Hc1 Hc2]
  · isplitl [Hm0]
    · iexact Hm0
    isplitl [Hm1]
    · iexact Hm1
    isplitl [Hm2]
    · iexact Hm2
    isplitl [Hm3]
    · iexact Hm3
    isplitl [Hm6]
    · iexact Hm6
    isplitl [Hm7]
    · iexact Hm7
    isplitl [Ho0]
    · iexact Ho0
    isplitl [Ho1]
    · iexact Ho1
    isplitl [Ho2]
    · iapply (done_of c vO 2 _ _ hv3); iexact Ho2
    isplitl [Ho4]
    · iexact Ho4
    isplitl [Ho5]
    · iexact Ho5
    isplitl [Ho6]
    · iexact Ho6
    isplitl [Ho7]
    · iexact Ho7
    isplitl [Hi0]
    · iexact Hi0
    isplitl [HI1]
    · iexact HI1
    isplitl [HI2]
    · iexists _; iexact HI2
    isplitl [HO0]
    · iexists v, XO, fr; isplitr; (ipureintro; exact hv'.trans hv.symm); iexact HO0
    isplitl [Hc1]
    · iexact Hc1
    iexact Hc2
  iexact HW

theorem step4 (hh : (i 0).val = 20) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 4 = mVal 4 G x6 x7 x8 ((mblk 4).view.read (Elt F) XM)) (W) :
    iprop(winB (F := F) c a4 a5 a6 a7 a8 x4 x5 x6 x7 x8 ∗ winP c gM G ∗ winP c a19 Y ∗ St c XM XO vO 5 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 4 (nVal 4 G x4 x5) Y⌝ ∗ winP c a19 Y') ∗ St c XM XO vO 6 ∗ ∃ W, owes (c : Thread nD τ) 0 W)) := by
  have ek : hp i = 4 := by show (i 0).val - 16 = 4; omega
  rw [St_5, St_6]
  iintro ⟨HB, HG, HY, ⟨Hm0, Hm1, Hm2, Hm3, Hm6, Hm7, Ho0, Ho1, Ho2, Ho4, Ho5, Ho6, Ho7, Hi0, HI1, HI2, HO0, Hc1, Hc2⟩, HW⟩
  icases HI1 with ⟨%f1, HI1⟩
  icases HO0 with ⟨%v3, %f2, %f3, %hv3, HO0⟩
  iapply (wp_wand_r Idealize.ShloMosaic.frame (wpE (defs₀ (F := F)) 𝒱₀ (c : Thread nD τ) none) Set.univ)
  isplitl [HB HG HY HI1 Hc1 Ho4 HO0 Hi0 Hm6 HW]
  · iapply (runMid' c i a1 h1 a2 h2 a3 h3 a4 h4 a5 h5 a6 h6 a7 h7 a8 h8 a9 h9 a10 h10 a11 h11 a12 h12 a13 h13 a14 h14 a15 h15 a16 h16 a19 h19 x4 x5 x6 x7 x8 4 1 0 4 3 6 ek rfl rfl rfl rfl rfl (by omega) (by omega) G Y XM f1 f2 f3 v3 XO W)
    isplitl [HB]; · iexact HB
    isplitl [HG]; · iexact HG
    isplitl [HY]; · iexact HY
    isplitl [HI1]; · iexact HI1
    isplitl [Hc1]; · iexact Hc1
    isplitl [Ho4]; · iexact Ho4
    isplitl [HO0]; · iexact HO0
    isplitl [Hi0]; · iexact Hi0
    isplitl [Hm6]; · iexact Hm6
    iexact HW
  iintro %_ ⟨HB, HG, HY, Hm4, Hi1, ⟨%v, %fr, %hv', HO1⟩, Ho3, Hc0, HI0, HW⟩
  isplitl [HB]; · iexact HB
  isplitl [HG]; · iexact HG
  isplitl [HY]; · iexact HY
  isplitl [Hm0 Hm1 Hm2 Hm3 Hm4 Hm7 Ho0 Ho1 Ho2 Ho3 Ho5 Ho6 Ho7 HI0 Hi1 HI2 Hc0 HO1 Hc2]
  · isplitl [Hm0]
    · iexact Hm0
    isplitl [Hm1]
    · iexact Hm1
    isplitl [Hm2]
    · iexact Hm2
    isplitl [Hm3]
    · iexact Hm3
    isplitl [Hm4]
    · iexact Hm4
    isplitl [Hm7]
    · iexact Hm7
    isplitl [Ho0]
    · iexact Ho0
    isplitl [Ho1]
    · iexact Ho1
    isplitl [Ho2]
    · iexact Ho2
    isplitl [Ho3]
    · iapply (done_of c vO 3 _ _ hv3); iexact Ho3
    isplitl [Ho5]
    · iexact Ho5
    isplitl [Ho6]
    · iexact Ho6
    isplitl [Ho7]
    · iexact Ho7
    isplitl [HI0]
    · iexists _; iexact HI0
    isplitl [Hi1]
    · iexact Hi1
    isplitl [HI2]
    · iexact HI2
    isplitl [Hc0]
    · iexact Hc0
    isplitl [HO1]
    · iexists v, XO, fr; isplitr; (ipureintro; exact hv'.trans hv.symm); iexact HO1
    iexact Hc2
  iexact HW

theorem step5 (hh : (i 0).val = 21) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 5 = mVal 5 G x6 x7 x8 ((mblk 5).view.read (Elt F) XM)) (W) :
    iprop(winB (F := F) c a4 a5 a6 a7 a8 x4 x5 x6 x7 x8 ∗ winP c gM G ∗ winP c a19 Y ∗ St c XM XO vO 6 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 5 (nVal 5 G x4 x5) Y⌝ ∗ winP c a19 Y') ∗ St c XM XO vO 7 ∗ ∃ W, owes (c : Thread nD τ) 0 W)) := by
  have ek : hp i = 5 := by show (i 0).val - 16 = 5; omega
  rw [St_6, St_7]
  iintro ⟨HB, HG, HY, ⟨Hm0, Hm1, Hm2, Hm3, Hm4, Hm7, Ho0, Ho1, Ho2, Ho3, Ho5, Ho6, Ho7, HI0, Hi1, HI2, Hc0, HO1, Hc2⟩, HW⟩
  icases HI2 with ⟨%f1, HI2⟩
  icases HO1 with ⟨%v3, %f2, %f3, %hv3, HO1⟩
  iapply (wp_wand_r Idealize.ShloMosaic.frame (wpE (defs₀ (F := F)) 𝒱₀ (c : Thread nD τ) none) Set.univ)
  isplitl [HB HG HY HI2 Hc2 Ho5 HO1 Hi1 Hm7 HW]
  · iapply (runMid' c i a1 h1 a2 h2 a3 h3 a4 h4 a5 h5 a6 h6 a7 h7 a8 h8 a9 h9 a10 h10 a11 h11 a12 h12 a13 h13 a14 h14 a15 h15 a16 h16 a19 h19 x4 x5 x6 x7 x8 5 2 1 5 4 7 ek rfl rfl rfl rfl rfl (by omega) (by omega) G Y XM f1 f2 f3 v3 XO W)
    isplitl [HB]; · iexact HB
    isplitl [HG]; · iexact HG
    isplitl [HY]; · iexact HY
    isplitl [HI2]; · iexact HI2
    isplitl [Hc2]; · iexact Hc2
    isplitl [Ho5]; · iexact Ho5
    isplitl [HO1]; · iexact HO1
    isplitl [Hi1]; · iexact Hi1
    isplitl [Hm7]; · iexact Hm7
    iexact HW
  iintro %_ ⟨HB, HG, HY, Hm5, Hi2, ⟨%v, %fr, %hv', HO2⟩, Ho4, Hc1, HI1, HW⟩
  isplitl [HB]; · iexact HB
  isplitl [HG]; · iexact HG
  isplitl [HY]; · iexact HY
  isplitl [Hm0 Hm1 Hm2 Hm3 Hm4 Hm5 Ho0 Ho1 Ho2 Ho3 Ho4 Ho6 Ho7 HI0 HI1 Hi2 Hc0 Hc1 HO2]
  · isplitl [Hm0]
    · iexact Hm0
    isplitl [Hm1]
    · iexact Hm1
    isplitl [Hm2]
    · iexact Hm2
    isplitl [Hm3]
    · iexact Hm3
    isplitl [Hm4]
    · iexact Hm4
    isplitl [Hm5]
    · iexact Hm5
    isplitl [Ho0]
    · iexact Ho0
    isplitl [Ho1]
    · iexact Ho1
    isplitl [Ho2]
    · iexact Ho2
    isplitl [Ho3]
    · iexact Ho3
    isplitl [Ho4]
    · iapply (done_of c vO 4 _ _ hv3); iexact Ho4
    isplitl [Ho6]
    · iexact Ho6
    isplitl [Ho7]
    · iexact Ho7
    isplitl [HI0]
    · iexact HI0
    isplitl [HI1]
    · iexists _; iexact HI1
    isplitl [Hi2]
    · iexact Hi2
    isplitl [Hc0]
    · iexact Hc0
    isplitl [Hc1]
    · iexact Hc1
    iexists v, XO, fr; isplitr; (ipureintro; exact hv'.trans hv.symm); iexact HO2
  iexact HW

theorem step6 (hh : (i 0).val = 22) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 6 = mVal 6 G x6 x7 x8 ((mblk 6).view.read (Elt F) XM)) (W) :
    iprop(winB (F := F) c a4 a5 a6 a7 a8 x4 x5 x6 x7 x8 ∗ winP c gM G ∗ winP c a19 Y ∗ St c XM XO vO 7 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 6 (nVal 6 G x4 x5) Y⌝ ∗ winP c a19 Y') ∗ St c XM XO vO 8 ∗ ∃ W, owes (c : Thread nD τ) 0 W)) := by
  have ek : hp i = 6 := by show (i 0).val - 16 = 6; omega
  rw [St_7, St_8]
  iintro ⟨HB, HG, HY, ⟨Hm0, Hm1, Hm2, Hm3, Hm4, Hm5, Ho0, Ho1, Ho2, Ho3, Ho4, Ho6, Ho7, HI0, HI1, Hi2, Hc0, Hc1, HO2⟩, HW⟩
  icases HI0 with ⟨%f1, HI0⟩
  iapply (wp_wand_r Idealize.ShloMosaic.frame (wpE (defs₀ (F := F)) 𝒱₀ (c : Thread nD τ) none) Set.univ)
  isplitl [HB HG HY HI0 Hc0 Ho6 HW]
  · iapply (runPair6' c i a1 h1 a2 h2 a3 h3 a4 h4 a5 h5 a6 h6 a7 h7 a8 h8 a9 h9 a10 h10 a11 h11 a12 h12 a13 h13 a14 h14 a15 h15 a16 h16 a19 h19 x4 x5 x6 x7 x8 6 0 2 6 5 0 ek rfl rfl rfl rfl rfl (by omega) G Y XM f1 XO W)
    isplitl [HB]; · iexact HB
    isplitl [HG]; · iexact HG
    isplitl [HY]; · iexact HY
    isplitl [HI0]; · iexact HI0
    isplitl [Hc0]; · iexact Hc0
    isplitl [Ho6]; · iexact Ho6
    iexact HW
  iintro %_ ⟨HB, HG, HY, Hm6, Hi0, ⟨%v, %fr, %hv', HO0⟩, HW⟩
  isplitl [HB]; · iexact HB
  isplitl [HG]; · iexact HG
  isplitl [HY]; · iexact HY
  isplitl [Hm0 Hm1 Hm2 Hm3 Hm4 Hm5 Hm6 Ho0 Ho1 Ho2 Ho3 Ho4 Ho7 Hi0 HI1 Hi2 HO0 Hc1 HO2]
  · isplitl [Hm0]
    · iexact Hm0
    isplitl [Hm1]
    · iexact Hm1
    isplitl [Hm2]
    · iexact Hm2
    isplitl [Hm3]
    · iexact Hm3
    isplitl [Hm4]
    · iexact Hm4
    isplitl [Hm5]
    · iexact Hm5
    isplitl [Hm6]
    · iexact Hm6
    isplitl [Ho0]
    · iexact Ho0
    isplitl [Ho1]
    · iexact Ho1
    isplitl [Ho2]
    · iexact Ho2
    isplitl [Ho3]
    · iexact Ho3
    isplitl [Ho4]
    · iexact Ho4
    isplitl [Ho7]
    · iexact Ho7
    isplitl [Hi0]
    · iexact Hi0
    isplitl [HI1]
    · iexact HI1
    isplitl [Hi2]
    · iexact Hi2
    isplitl [HO0]
    · iexists v, XO, fr; isplitr; (ipureintro; exact hv'.trans hv.symm); iexact HO0
    isplitl [Hc1]
    · iexact Hc1
    iexact HO2
  iexact HW

theorem step7 (hh : (i 0).val = 23) (G : S256x4096.Idx → Elt F .f32) (Y : S256x1024.Idx → Elt F .f32) (XM : Buf (Elt F) (mM.view.loc (c : Thread nD τ))) (XO : Buf (Elt F) (oM.view.loc (c : Thread nD τ))) (vO : Fin 8 → S256x8192.Idx → Elt F .f32)
    (hv : vO 7 = mVal 7 G x6 x7 x8 ((mblk 7).view.read (Elt F) XM)) (W) :
    iprop(winB (F := F) c a4 a5 a6 a7 a8 x4 x5 x6 x7 x8 ∗ winP c gM G ∗ winP c a19 Y ∗ St c XM XO vO 8 ∗ owes (c : Thread nD τ) 0 W) ⊢ wp frame (wpE (defs₀ (F := F)) 𝒱₀ (c : Thread nD τ) none) Set.univ (bodyG i a1 h1 a2 h2 a3 h3 a4 h4 a5 h5 a6 h6 a7 h7 a8 h8 a9 h9 a10 h10 a11 h11 a12 h12 a13 h13 a14 h14 a15 h15 a16 h16 a19 h19)
      (fun _ => iprop(winB (F := F) c a4 a5 a6 a7 a8 x4 x5 x6 x7 x8 ∗ winP c gM G ∗ (∃ Y', ⌜Y' = nStep 7 (nVal 7 G x4 x5) Y⌝ ∗ winP c a19 Y') ∗ St c XM XO vO 9 ∗ ∃ W, owes (c : Thread nD τ) 0 W)) := by
  have ek : hp i = 7 := by show (i 0).val - 16 = 7; omega
  rw [St_8, St_9]
  iintro ⟨HB, HG, HY, ⟨Hm0, Hm1, Hm2, Hm3, Hm4, Hm5, Hm6, Ho0, Ho1, Ho2, Ho3, Ho4, Ho7, Hi0, HI1, Hi2, HO0, Hc1, HO2⟩, HW⟩
  icases HI1 with ⟨%f1, HI1⟩
  icases HO2 with ⟨%v5, %fo5, %fr5, %hv5, HO2⟩
  icases HO0 with ⟨%v6, %fo6, %fr6, %hv6, HO0⟩
  iapply (wp_wand_r Idealize.ShloMosaic.frame (wpE (defs₀ (F := F)) 𝒱₀ (c : Thread nD τ) none) Set.univ)
  isplitl [HB HG HY HI1 Hc1 Ho7 HO2 HO0 HW]
  · iapply (runPair7 c i a1 h1 a2 h2 a3 h3 a4 h4 a5 h5 a6 h6 a7 h7 a8 h8 a9 h9 a10 h10 a11 h11 a12 h12 a13 h13 a14 h14 a15 h15 a16 h16 a19 h19 x4 x5 x6 x7 x8 hh G Y XM f1 XO v5 fo5 fr5 v6 fo6 fr6 W)
    isplitl [HB]; · iexact HB
    isplitl [HG]; · iexact HG
    isplitl [HY]; · iexact HY
    isplitl [HI1]; · iexact HI1
    isplitl [Hc1]; · iexact Hc1
    isplitl [Ho7]; · iexact Ho7
    isplitl [HO2]; · iexact HO2
    isplitl [HO0]; · iexact HO0
    iexact HW
  iintro %_ ⟨HB, HG, HY, Hm7, Hi1, ⟨%v, %hv', Ho7⟩, Ho5, Ho6, Hs1, Hs2, Hs0, Hc1, Hc2, Hc0, HW⟩
  rw [ek] at hv'
  isplitl [HB]; · iexact HB
  isplitl [HG]; · iexact HG
  isplitl [HY]; · irw [← ek]; iexact HY
  isplitl [Hm0 Hm1 Hm2 Hm3 Hm4 Hm5 Hm6 Hm7 Ho0 Ho1 Ho2 Ho3 Ho4 Ho5 Ho6 Ho7 Hi0 Hi1 Hi2 Hc0 Hc1 Hc2 Hs0 Hs1 Hs2]
  · isplitl [Hm0]
    · iexact Hm0
    isplitl [Hm1]
    · iexact Hm1
    isplitl [Hm2]
    · iexact Hm2
    isplitl [Hm3]
    · iexact Hm3
    isplitl [Hm4]
    · iexact Hm4
    isplitl [Hm5]
    · iexact Hm5
    isplitl [Hm6]
    · iexact Hm6
    isplitl [Hm7]
    · iexact Hm7
    isplitl [Ho0]
    · iexact Ho0
    isplitl [Ho1]
    · iexact Ho1
    isplitl [Ho2]
    · iexact Ho2
    isplitl [Ho3]
    · iexact Ho3
    isplitl [Ho4]
    · iexact Ho4
    isplitl [Ho5]
    · iapply (done_of c vO 5 _ _ hv5); iexact Ho5
    isplitl [Ho6]
    · iapply (done_of c vO 6 _ _ hv6); iexact Ho6
    isplitl [Ho7]
    · iapply (done_of c vO 7 _ _ (hv'.trans hv.symm)); iexact Ho7
    isplitl [Hi0]
    · iexact Hi0
    isplitl [Hi1]
    · iexact Hi1
    isplitl [Hi2]
    · iexact Hi2
    isplitl [Hc0]
    · iexact Hc0
    isplitl [Hc1]
    · iexact Hc1
    isplitl [Hc2]
    · iexact Hc2
    isplitl [Hs0]
    · iexists _; iexact Hs0
    isplitl [Hs1]
    · iexact Hs1
    iexists _; iexact Hs2
  iexact HW

end Steps

end Cert.Proof.I

end
-- ==== Proof.IdealInv.lean ====
/- What holds before each grid point, and the body from one point to the next. -/
module

public import proofs.«01_k».proof.Proof.IdealStep

@[expose] public section

set_option maxRecDepth 16384

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf UD)

variable {F : FTy → Type} [FloatOps F]

local notation "𝕄" => MT nD τ sig Unit (Elt F) ℕ (UD sig nD τ) ℕ

/-! ## The projections, tile by tile -/

section Inv
variable (m : (ℓ : Loc nD τ sig) → Buf (Elt F) ℓ) (c : Dev nD)

/-- The grid point of number `n`. -/
def pt (n : ℕ) : Fin cfg0.N := ⟨n % 24, by show n % 24 < grid0.N; rw [N_0]; omega⟩

theorem coords_val : ∀ t : Fin grid0.N, ((grid0.coords t) 0).val = t.val := by decide
theorem lt24 (t : Fin cfg0.N) : t.val < 24 := by have := t.isLt; have e : cfg0.N = 24 := N_0; omega
theorem eq_pt (t : Fin cfg0.N) : t = pt t.val := Fin.ext (Nat.mod_eq_of_lt (lt24 t)).symm

/-- What projection point `t` contributes, at every column of its tile. -/
def CA (t : Fin cfg0.N) : S256x4096.Idx → Elt F .f32 := cAt (grid0.coords t) (iblk m c 0 t) (iblk m c 1 t) (iblk m c 2 t) (iblk m c 8 t) (iblk m c 9 t) (iblk m c 10 t) (iblk m c 11 t) (iblk m c 12 t) (iblk m c 13 t) (iblk m c 14 t) (iblk m c 15 t)

/-- The projections after `k` banks. -/
def gAcc : ℕ → S256x4096.Idx → Elt F .f32
  | 0 => CA m c (pt 0)
  | k + 1 => fun y => if k = 0 then CA m c (pt (4 * ((y 1).val % 1024 / 256) + k)) y
      else FloatOps.addf (gAcc k y) (CA m c (pt (4 * ((y 1).val % 1024 / 256) + k)) y)

/-- The projections, every bank added. -/
abbrev gFin : S256x4096.Idx → Elt F .f32 := gAcc m c 4

/-- The tiles begun before point `n` hold the banks they have met. -/
def GOK (n : ℕ) (G : S256x4096.Idx → Elt F .f32) : Prop :=
  ∀ y : S256x4096.Idx, 4 * ((y 1).val % 1024 / 256) < n → G y = gAcc m c (min (n - 4 * ((y 1).val % 1024 / 256)) 4) y

theorem GOK_step (t : Fin cfg0.N) (ht : t.val < 16) (G : S256x4096.Idx → Elt F .f32) (hG : GOK m c t.val G) : GOK m c (t.val + 1) (gStep t.val (CA m c t) G) := by
  intro y hy
  unfold gStep
  by_cases e : (y 1).val % 1024 / 256 = t.val / 4
  · rw [if_pos e]
    have e1 : min (t.val + 1 - 4 * ((y 1).val % 1024 / 256)) 4 = t.val % 4 + 1 := by omega
    have e2 : 4 * ((y 1).val % 1024 / 256) + t.val % 4 = t.val := by omega
    rw [e1]
    show _ = if t.val % 4 = 0 then CA m c (pt (4 * ((y 1).val % 1024 / 256) + t.val % 4)) y else FloatOps.addf (gAcc m c (t.val % 4) y) (CA m c (pt (4 * ((y 1).val % 1024 / 256) + t.val % 4)) y)
    rw [e2, ← eq_pt t]
    by_cases h0 : t.val % 4 = 0
    · rw [if_pos h0, if_pos h0]
    · rw [if_neg h0, if_neg h0]
      show FloatOps.addf (G y) (CA m c t y) = _
      rw [hG y (by omega), show min (t.val - 4 * ((y 1).val % 1024 / 256)) 4 = t.val % 4 by omega]
  · rw [if_neg e, hG y (by omega)]
    congr 1; omega

theorem GOK_fin (n : ℕ) (hn : 16 ≤ n) (G : S256x4096.Idx → Elt F .f32) (hG : GOK m c n G) : G = gFin m c := by
  funext y
  rw [hG y (by omega)]
  congr 1; omega

theorem GOK_of (n : ℕ) (hn : 16 ≤ n) : GOK m c n (gFin m c) := by
  intro y _
  show gAcc m c 4 y = _
  congr 1; omega

/-! ## The results -/

/-- The memory array as the grid finds it. -/
abbrev XM : Buf (Elt F) (mM.view.loc (c : Thread nD τ)) := V m c main_v0
/-- The result array as the grid finds it. -/
abbrev XO : Buf (Elt F) (oM.view.loc (c : Thread nD τ)) := V m c main_v37_0

/-- Pair `b` of the updated memory. -/
def vO (b : Fin 8) : S256x8192.Idx → Elt F .f32 :=
  mVal b.val (gFin m c) (iblk m c 5 (pt (16 + b.val))) (iblk m c 6 (pt (16 + b.val))) (iblk m c 7 (pt (16 + b.val))) ((mblk b).view.read (Elt F) (XM m c))
/-- Pair `b`'s columns of the updated normalizer. -/
def nO (h : ℕ) : FVec F S256x128 .f32 := nVal h (gFin m c) (iblk m c 3 (pt (16 + h))) (iblk m c 4 (pt (16 + h)))

/-- The normalizer block after point `n`: the columns of the pairs already met. -/
def NOK (n : ℕ) (X : S256x1024.Idx → Elt F .f32) : Prop :=
  ∀ y : S256x1024.Idx, (y 1).val / 128 + 16 ≤ n → X y = nO m c ((y 1).val / 128) (ix2 (y 0) ⟨(y 1).val % 128, Nat.mod_lt _ (by decide)⟩)

theorem NOK_lt (n : ℕ) (hn : n < 16) (X) : NOK m c n X := fun y hy => absurd hy (by omega)
theorem NOK_step (h : ℕ) (Y : S256x1024.Idx → Elt F .f32) (hY : NOK m c (15 + h) Y) : NOK m c (16 + h) (nStep h (nO m c h) Y) := by
  intro y hy
  unfold nStep
  by_cases e : (y 1).val / 128 = h
  · rw [if_pos e, e]
  · rw [if_neg e]; exact hY y (by omega)

/-- What holds before point `n`. -/
def Phi (n : ℕ) : sProp 𝕄 :=
  iprop((∃ r, prngReg c r) ∗ (∃ G, ⌜GOK m c n G⌝ ∗ winP c gM G) ∗ St c (XM m c) (XO m c) (vO m c) (if n = 0 then 0 else n - 16 + 1))

section Core
variable (t : Fin cfg0.N)
  (a1 : Memref sig .tc .vmem S256x1024 .f32) (h1 : a1.IsWhole) (a2 : Memref sig .tc .vmem S256x2 .i32) (h2 : a2.IsWhole) (a3 : Memref sig .tc .vmem S256x2 .f32) (h3 : a3.IsWhole) (a4 : Memref sig .tc .vmem S256x1024 .f32) (h4 : a4.IsWhole) (a5 : Memref sig .tc .vmem S1x1024 .f32) (h5 : a5.IsWhole) (a6 : Memref sig .tc .vmem S1x4096 .f32) (h6 : a6.IsWhole) (a7 : Memref sig .tc .vmem S64x4096 .bf16) (h7 : a7.IsWhole) (a8 : Memref sig .tc .vmem S64x4096 .bf16) (h8 : a8.IsWhole) (a9 : Memref sig .tc .vmem S1x1024x256 .f32) (h9 : a9.IsWhole) (a10 : Memref sig .tc .vmem S4x1x1024 .f32) (h10 : a10.IsWhole) (a11 : Memref sig .tc .vmem S1x1024x256 .f32) (h11 : a11.IsWhole) (a12 : Memref sig .tc .vmem S4x1x1024 .f32) (h12 : a12.IsWhole) (a13 : Memref sig .tc .vmem S1x1024x256 .f32) (h13 : a13.IsWhole) (a14 : Memref sig .tc .vmem S4x1x1024 .f32) (h14 : a14.IsWhole) (a15 : Memref sig .tc .vmem S1x1024x256 .f32) (h15 : a15.IsWhole) (a16 : Memref sig .tc .vmem S4x1x1024 .f32) (h16 : a16.IsWhole) (a19 : Memref sig .tc .vmem S256x1024 .f32) (h19 : a19.IsWhole)
theorem coreAdd (ht : t.val < 16) (hn : t.val % 4 ≠ 0) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have hz : t.val ≠ 0 := fun h => hn (by rw [h])
  have e0 : (if t.val = 0 then 0 else t.val - 16 + 1) = 1 := by rw [if_neg hz]; omega
  have e1 : (if t.val + 1 = 0 then 0 else t.val + 1 - 16 + 1) = 1 := by rw [if_neg (by omega)]; omega
  have hs := GOK_step m c t ht
  unfold Phi
  rw [e0, e1]
  iintro ⟨⟨HP, ⟨%G, %hG, HG⟩, HS⟩, HA, HB, HY, HW⟩
  iapply (wp_wand_r Idealize.ShloMosaic.frame (wpE (defs₀ (F := F)) 𝒱₀ (c : Thread nD τ) none) Set.univ)
  isplitl [HA HG HW]
  · iapply (runAdd c (grid0.coords t) a1 h1 a2 h2 a3 h3 a4 h4 a5 h5 a6 h6 a7 h7 a8 h8 a9 h9 a10 h10 a11 h11 a12 h12 a13 h13 a14 h14 a15 h15 a16 h16 a19 h19 (iblk m c 0 t) (iblk m c 1 t) (iblk m c 2 t) (iblk m c 8 t) (iblk m c 9 t) (iblk m c 10 t) (iblk m c 11 t) (iblk m c 12 t) (iblk m c 13 t) (iblk m c 14 t) (iblk m c 15 t) (by omega) (by omega) G W)
    isplitl [HA]; · iexact HA
    isplitl [HG]; · iexact HG
    iexact HW
  iintro %_ ⟨HA, ⟨%G', %hG', HG⟩, HW⟩
  rw [ec] at hG'
  isplitl [HP HG HS]
  · isplitl [HP]; · iexact HP
    isplitl [HG]; · iexists G'; isplitr; (ipureintro; rw [hG']; exact hs G hG); iexact HG
    iexact HS
  isplitl [HA]; · iexact HA
  isplitl [HB]; · iexact HB
  isplitl [HY]; · iexists Y; isplitr; (ipureintro; exact NOK_lt m c _ ht Y); iexact HY
  iexact HW

theorem coreStore (ht : t.val < 16) (hn : t.val % 4 = 0) (hz : t.val ≠ 0) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have e0 : (if t.val = 0 then 0 else t.val - 16 + 1) = 1 := by rw [if_neg hz]; omega
  have e1 : (if t.val + 1 = 0 then 0 else t.val + 1 - 16 + 1) = 1 := by rw [if_neg (by omega)]; omega
  have hs := GOK_step m c t ht
  unfold Phi
  rw [e0, e1]
  iintro ⟨⟨HP, ⟨%G, %hG, HG⟩, HS⟩, HA, HB, HY, HW⟩
  iapply (wp_wand_r Idealize.ShloMosaic.frame (wpE (defs₀ (F := F)) 𝒱₀ (c : Thread nD τ) none) Set.univ)
  isplitl [HA HG HW]
  · iapply (runStore c (grid0.coords t) a1 h1 a2 h2 a3 h3 a4 h4 a5 h5 a6 h6 a7 h7 a8 h8 a9 h9 a10 h10 a11 h11 a12 h12 a13 h13 a14 h14 a15 h15 a16 h16 a19 h19 (iblk m c 0 t) (iblk m c 1 t) (iblk m c 2 t) (iblk m c 8 t) (iblk m c 9 t) (iblk m c 10 t) (iblk m c 11 t) (iblk m c 12 t) (iblk m c 13 t) (iblk m c 14 t) (iblk m c 15 t) (by omega) (by omega) (by omega) G W)
    isplitl [HA]; · iexact HA
    isplitl [HG]; · iexact HG
    iexact HW
  iintro %_ ⟨HA, ⟨%G', %hG', HG⟩, HW⟩
  rw [ec] at hG'
  isplitl [HP HG HS]
  · isplitl [HP]; · iexact HP
    isplitl [HG]; · iexists G'; isplitr; (ipureintro; rw [hG']; exact hs G hG); iexact HG
    iexact HS
  isplitl [HA]; · iexact HA
  isplitl [HB]; · iexact HB
  isplitl [HY]; · iexists Y; isplitr; (ipureintro; exact NOK_lt m c _ ht Y); iexact HY
  iexact HW

theorem coreFirst (hz : t.val = 0) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have ht : t.val < 16 := by omega
  have e0 : (if t.val = 0 then 0 else t.val - 16 + 1) = 0 := if_pos hz
  have e1 : (if t.val + 1 = 0 then 0 else t.val + 1 - 16 + 1) = 1 := by rw [if_neg (by omega)]; omega
  have hs := GOK_step m c t ht
  unfold Phi
  rw [e0, e1]
  rw [St_0, St_1]
  iintro ⟨⟨HP, ⟨%G, %hG, HG⟩, ⟨Hm0, Hm1, Hm2, Hm3, Hm4, Hm5, Hm6, Hm7, Ho0, Ho1, Ho2, Ho3, Ho4, Ho5, Ho6, Ho7, Hi0, Hi1, Hi2, Hc0, Hc1, Hc2, Hs0, Hs1, Hs2⟩⟩, HA, HB, HY, HW⟩
  icases Hs0 with ⟨%f0, Hs0⟩
  icases Hs1 with ⟨%f1, Hs1⟩
  iapply (wp_wand_r Idealize.ShloMosaic.frame (wpE (defs₀ (F := F)) 𝒱₀ (c : Thread nD τ) none) Set.univ)
  isplitl [HA HG Hm0 Hm1 Hs0 Hs1 Hi0 Hi1 HW]
  · iapply (runFirst c (grid0.coords t) a1 h1 a2 h2 a3 h3 a4 h4 a5 h5 a6 h6 a7 h7 a8 h8 a9 h9 a10 h10 a11 h11 a12 h12 a13 h13 a14 h14 a15 h15 a16 h16 a19 h19 (iblk m c 0 t) (iblk m c 1 t) (iblk m c 2 t) (iblk m c 8 t) (iblk m c 9 t) (iblk m c 10 t) (iblk m c 11 t) (iblk m c 12 t) (iblk m c 13 t) (iblk m c 14 t) (iblk m c 15 t) (by omega) (by omega) (ec.trans hz) G (XM m c) f0 f1 W)
    isplitl [HA]; · iexact HA
    isplitl [HG]; · iexact HG
    isplitl [Hm0]; · iexact Hm0
    isplitl [Hm1]; · iexact Hm1
    isplitl [Hs0]; · iexact Hs0
    isplitl [Hs1]; · iexact Hs1
    isplitl [Hi0]; · iexact Hi0
    isplitl [Hi1]; · iexact Hi1
    iexact HW
  iintro %_ ⟨HA, ⟨%G', %hG', HG⟩, HI0, HI1, HW⟩
  rw [ec] at hG'
  isplitl [HP HG Hm2 Hm3 Hm4 Hm5 Hm6 Hm7 Ho0 Ho1 Ho2 Ho3 Ho4 Ho5 Ho6 Ho7 HI0 HI1 Hi2 Hc0 Hc1 Hc2 Hs2]
  · isplitl [HP]; · iexact HP
    isplitl [HG]; · iexists G'; isplitr; (ipureintro; rw [hG']; exact hs G hG); iexact HG
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [HI0]; · iexists _; iexact HI0
    isplitl [HI1]; · iexists _; iexact HI1
    isplitl [Hi2]; · iexact Hi2
    isplitl [Hc0]; · iexact Hc0
    isplitl [Hc1]; · iexact Hc1
    isplitl [Hc2]; · iexact Hc2
    iexact Hs2
  isplitl [HA]; · iexact HA
  isplitl [HB]; · iexact HB
  isplitl [HY]; · iexists Y; isplitr; (ipureintro; exact NOK_lt m c _ ht Y); iexact HY
  iexact HW

theorem corePair0 (hh : t.val = 16) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 16 := (eq_pt t).trans (congrArg pt hh)
  have e0 : (if t.val = 0 then 0 else t.val - 16 + 1) = 1 := by rw [if_neg (by omega)]; omega
  have e1 : (if t.val + 1 = 0 then 0 else t.val + 1 - 16 + 1) = 2 := by rw [if_neg (by omega)]; omega
  have hv : vO m c 0 = mVal 0 (gFin m c) (iblk m c 5 t) (iblk m c 6 t) (iblk m c 7 t) ((mblk 0).view.read (Elt F) (XM m c)) := by rw [et]; rfl
  have hn : nVal 0 (gFin m c) (iblk m c 3 t) (iblk m c 4 t) = nO m c 0 := by rw [et]; rfl
  have hY' : NOK m c (15 + 0) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step0 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 0 Y hY'); iexact HY
  iexact HW

theorem corePair1 (hh : t.val = 17) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 17 := (eq_pt t).trans (congrArg pt hh)
  have e0 : (if t.val = 0 then 0 else t.val - 16 + 1) = 2 := by rw [if_neg (by omega)]; omega
  have e1 : (if t.val + 1 = 0 then 0 else t.val + 1 - 16 + 1) = 3 := by rw [if_neg (by omega)]; omega
  have hv : vO m c 1 = mVal 1 (gFin m c) (iblk m c 5 t) (iblk m c 6 t) (iblk m c 7 t) ((mblk 1).view.read (Elt F) (XM m c)) := by rw [et]; rfl
  have hn : nVal 1 (gFin m c) (iblk m c 3 t) (iblk m c 4 t) = nO m c 1 := by rw [et]; rfl
  have hY' : NOK m c (15 + 1) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step1 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 1 Y hY'); iexact HY
  iexact HW

theorem corePair2 (hh : t.val = 18) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 18 := (eq_pt t).trans (congrArg pt hh)
  have e0 : (if t.val = 0 then 0 else t.val - 16 + 1) = 3 := by rw [if_neg (by omega)]; omega
  have e1 : (if t.val + 1 = 0 then 0 else t.val + 1 - 16 + 1) = 4 := by rw [if_neg (by omega)]; omega
  have hv : vO m c 2 = mVal 2 (gFin m c) (iblk m c 5 t) (iblk m c 6 t) (iblk m c 7 t) ((mblk 2).view.read (Elt F) (XM m c)) := by rw [et]; rfl
  have hn : nVal 2 (gFin m c) (iblk m c 3 t) (iblk m c 4 t) = nO m c 2 := by rw [et]; rfl
  have hY' : NOK m c (15 + 2) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step2 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 2 Y hY'); iexact HY
  iexact HW

theorem corePair3 (hh : t.val = 19) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 19 := (eq_pt t).trans (congrArg pt hh)
  have e0 : (if t.val = 0 then 0 else t.val - 16 + 1) = 4 := by rw [if_neg (by omega)]; omega
  have e1 : (if t.val + 1 = 0 then 0 else t.val + 1 - 16 + 1) = 5 := by rw [if_neg (by omega)]; omega
  have hv : vO m c 3 = mVal 3 (gFin m c) (iblk m c 5 t) (iblk m c 6 t) (iblk m c 7 t) ((mblk 3).view.read (Elt F) (XM m c)) := by rw [et]; rfl
  have hn : nVal 3 (gFin m c) (iblk m c 3 t) (iblk m c 4 t) = nO m c 3 := by rw [et]; rfl
  have hY' : NOK m c (15 + 3) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step3 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 3 Y hY'); iexact HY
  iexact HW

theorem corePair4 (hh : t.val = 20) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 20 := (eq_pt t).trans (congrArg pt hh)
  have e0 : (if t.val = 0 then 0 else t.val - 16 + 1) = 5 := by rw [if_neg (by omega)]; omega
  have e1 : (if t.val + 1 = 0 then 0 else t.val + 1 - 16 + 1) = 6 := by rw [if_neg (by omega)]; omega
  have hv : vO m c 4 = mVal 4 (gFin m c) (iblk m c 5 t) (iblk m c 6 t) (iblk m c 7 t) ((mblk 4).view.read (Elt F) (XM m c)) := by rw [et]; rfl
  have hn : nVal 4 (gFin m c) (iblk m c 3 t) (iblk m c 4 t) = nO m c 4 := by rw [et]; rfl
  have hY' : NOK m c (15 + 4) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step4 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 4 Y hY'); iexact HY
  iexact HW

theorem corePair5 (hh : t.val = 21) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 21 := (eq_pt t).trans (congrArg pt hh)
  have e0 : (if t.val = 0 then 0 else t.val - 16 + 1) = 6 := by rw [if_neg (by omega)]; omega
  have e1 : (if t.val + 1 = 0 then 0 else t.val + 1 - 16 + 1) = 7 := by rw [if_neg (by omega)]; omega
  have hv : vO m c 5 = mVal 5 (gFin m c) (iblk m c 5 t) (iblk m c 6 t) (iblk m c 7 t) ((mblk 5).view.read (Elt F) (XM m c)) := by rw [et]; rfl
  have hn : nVal 5 (gFin m c) (iblk m c 3 t) (iblk m c 4 t) = nO m c 5 := by rw [et]; rfl
  have hY' : NOK m c (15 + 5) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step5 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 5 Y hY'); iexact HY
  iexact HW

theorem corePair6 (hh : t.val = 22) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 22 := (eq_pt t).trans (congrArg pt hh)
  have e0 : (if t.val = 0 then 0 else t.val - 16 + 1) = 7 := by rw [if_neg (by omega)]; omega
  have e1 : (if t.val + 1 = 0 then 0 else t.val + 1 - 16 + 1) = 8 := by rw [if_neg (by omega)]; omega
  have hv : vO m c 6 = mVal 6 (gFin m c) (iblk m c 5 t) (iblk m c 6 t) (iblk m c 7 t) ((mblk 6).view.read (Elt F) (XM m c)) := by rw [et]; rfl
  have hn : nVal 6 (gFin m c) (iblk m c 3 t) (iblk m c 4 t) = nO m c 6 := by rw [et]; rfl
  have hY' : NOK m c (15 + 6) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step6 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 6 Y hY'); iexact HY
  iexact HW

theorem corePair7 (hh : t.val = 23) (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have ec : ((grid0.coords t) 0).val = t.val := coords_val t
  have et : t = pt 23 := (eq_pt t).trans (congrArg pt hh)
  have e0 : (if t.val = 0 then 0 else t.val - 16 + 1) = 8 := by rw [if_neg (by omega)]; omega
  have e1 : (if t.val + 1 = 0 then 0 else t.val + 1 - 16 + 1) = 9 := by rw [if_neg (by omega)]; omega
  have hv : vO m c 7 = mVal 7 (gFin m c) (iblk m c 5 t) (iblk m c 6 t) (iblk m c 7 t) ((mblk 7).view.read (Elt F) (XM m c)) := by rw [et]; rfl
  have hn : nVal 7 (gFin m c) (iblk m c 3 t) (iblk m c 4 t) = nO m c 7 := by rw [et]; rfl
  have hY' : NOK m c (15 + 7) Y := by rw [hh] at hY; exact hY
  unfold Phi
  rw [e0, e1]
  iintro ⟨⟨HP, ⟨%G, %hG, HG⟩, HS⟩, HA, HB, HY, HW⟩
  obtain rfl := GOK_fin m c _ (by omega) G hG
  iapply (wp_wand_r Idealize.ShloMosaic.frame (wpE (defs₀ (F := F)) 𝒱₀ (c : Thread nD τ) none) Set.univ)
  isplitl [HB HG HY HS HW]
  · iapply (step7 c (grid0.coords t) a1 h1 a2 h2 a3 h3 a4 h4 a5 h5 a6 h6 a7 h7 a8 h8 a9 h9 a10 h10 a11 h11 a12 h12 a13 h13 a14 h14 a15 h15 a16 h16 a19 h19 (iblk m c 3 t) (iblk m c 4 t) (iblk m c 5 t) (iblk m c 6 t) (iblk m c 7 t) (ec.trans hh) (gFin m c) Y (XM m c) (XO m c) (vO m c) hv W)
    isplitl [HB]; · iexact HB
    isplitl [HG]; · iexact HG
    isplitl [HY]; · iexact HY
    isplitl [HS]; · iexact HS
    iexact HW
  iintro %_ ⟨HB, HG, ⟨%Y', %hY2, HY⟩, HS, HW⟩
  rw [hn] at hY2
  isplitl [HP HG HS]
  · isplitl [HP]; · iexact HP
    isplitl [HG]; · iexists (gFin m c); isplitr; (ipureintro; exact GOK_of m c _ (by omega)); iexact HG
    iexact HS
  isplitl [HA]; · iexact HA
  isplitl [HB]; · iexact HB
  isplitl [HY]; · iexists Y'; isplitr; (ipureintro; rw [hY2, hh]; exact NOK_step m c 7 Y hY'); iexact HY
  iexact HW

/-- The body, from what holds before a point to what holds after it. -/
theorem core (Y : S256x1024.Idx → Elt F .f32) (hY : NOK m c (t.val - 1) Y) (W) :
    iprop(Phi m c t.val ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ winP c a19 Y ∗ owes (c : Thread nD τ) 0 W) ⊢ wp frame (wpE (defs₀ (F := F)) 𝒱₀ (c : Thread nD τ) none) Set.univ (bodyG (grid0.coords t) a1 h1 a2 h2 a3 h3 a4 h4 a5 h5 a6 h6 a7 h7 a8 h8 a9 h9 a10 h10 a11 h11 a12 h12 a13 h13 a14 h14 a15 h15 a16 h16 a19 h19)
      (fun _ => iprop(Phi m c (t.val + 1) ∗ winA (F := F) c a1 a2 a3 a9 a10 a11 a12 a13 a14 a15 a16 (iblk m c 0 t) (iblk m c 1 t) (iblk m c 2 t) (iblk m c 8 t) (iblk m c 9 t) (iblk m c 10 t) (iblk m c 11 t) (iblk m c 12 t) (iblk m c 13 t) (iblk m c 14 t) (iblk m c 15 t) ∗ winB (F := F) c a4 a5 a6 a7 a8 (iblk m c 3 t) (iblk m c 4 t) (iblk m c 5 t) (iblk m c 6 t) (iblk m c 7 t) ∗ (∃ Y', ⌜NOK m c t.val Y'⌝ ∗ winP c a19 Y') ∗ ∃ W, owes (c : Thread nD τ) 0 W)) := by
  have hlt := lt24 t
  by_cases ht : t.val < 16
  · by_cases hz : t.val = 0
    · exact coreFirst m c t a1 h1 a2 h2 a3 h3 a4 h4 a5 h5 a6 h6 a7 h7 a8 h8 a9 h9 a10 h10 a11 h11 a12 h12 a13 h13 a14 h14 a15 h15 a16 h16 a19 h19 hz Y hY W
    · by_cases hn : t.val % 4 = 0
      · exact coreStore m c t a1 h1 a2 h2 a3 h3 a4 h4 a5 h5 a6 h6 a7 h7 a8 h8 a9 h9 a10 h10 a11 h11 a12 h12 a13 h13 a14 h14 a15 h15 a16 h16 a19 h19 ht hn hz Y hY W
      · exact coreAdd m c t a1 h1 a2 h2 a3 h3 a4 h4 a5 h5 a6 h6 a7 h7 a8 h8 a9 h9 a10 h10 a11 h11 a12 h12 a13 h13 a14 h14 a15 h15 a16 h16 a19 h19 ht hn Y hY W
  · obtain hh | hh | hh | hh | hh | hh | hh | hh : t.val = 16 ∨ t.val = 17 ∨ t.val = 18 ∨ t.val = 19 ∨ t.val = 20 ∨ t.val = 21 ∨ t.val = 22 ∨ t.val = 23 := by omega
    · exact corePair0 m c t a1 h1 a2 h2 a3 h3 a4 h4 a5 h5 a6 h6 a7 h7 a8 h8 a9 h9 a10 h10 a11 h11 a12 h12 a13 h13 a14 h14 a15 h15 a16 h16 a19 h19 hh Y hY W
    · exact corePair1 m c t a1 h1 a2 h2 a3 h3 a4 h4 a5 h5 a6 h6 a7 h7 a8 h8 a9 h9 a10 h10 a11 h11 a12 h12 a13 h13 a14 h14 a15 h15 a16 h16 a19 h19 hh Y hY W
    · exact corePair2 m c t a1 h1 a2 h2 a3 h3 a4 h4 a5 h5 a6 h6 a7 h7 a8 h8 a9 h9 a10 h10 a11 h11 a12 h12 a13 h13 a14 h14 a15 h15 a16 h16 a19 h19 hh Y hY W
    · exact corePair3 m c t a1 h1 a2 h2 a3 h3 a4 h4 a5 h5 a6 h6 a7 h7 a8 h8 a9 h9 a10 h10 a11 h11 a12 h12 a13 h13 a14 h14 a15 h15 a16 h16 a19 h19 hh Y hY W
    · exact corePair4 m c t a1 h1 a2 h2 a3 h3 a4 h4 a5 h5 a6 h6 a7 h7 a8 h8 a9 h9 a10 h10 a11 h11 a12 h12 a13 h13 a14 h14 a15 h15 a16 h16 a19 h19 hh Y hY W
    · exact corePair5 m c t a1 h1 a2 h2 a3 h3 a4 h4 a5 h5 a6 h6 a7 h7 a8 h8 a9 h9 a10 h10 a11 h11 a12 h12 a13 h13 a14 h14 a15 h15 a16 h16 a19 h19 hh Y hY W
    · exact corePair6 m c t a1 h1 a2 h2 a3 h3 a4 h4 a5 h5 a6 h6 a7 h7 a8 h8 a9 h9 a10 h10 a11 h11 a12 h12 a13 h13 a14 h14 a15 h15 a16 h16 a19 h19 hh Y hY W
    · exact corePair7 m c t a1 h1 a2 h2 a3 h3 a4 h4 a5 h5 a6 h6 a7 h7 a8 h8 a9 h9 a10 h10 a11 h11 a12 h12 a13 h13 a14 h14 a15 h15 a16 h16 a19 h19 hh Y hY W

end Core

end Inv

end Cert.Proof.I

end
-- ==== Proof.IdealDat.lean ====
/- The body obligation of the pipeline. -/
module

public import proofs.«01_k».proof.Proof.IdealInv
public import Idealize.ShloMosaic.Lib.Pipeline.DatRel
public import Idealize.ShloMosaic.Lib.Pipeline.TableIdle

@[expose] public section

set_option maxRecDepth 16384

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf UD)

variable {F : FTy → Type} [FloatOps F]

local notation "𝕄" => MT nD τ sig Unit (Elt F) ℕ (UD sig nD τ) ℕ

/-! ## The proof data -/

section Obligation
variable (m : (ℓ : Loc nD τ sig) → Buf (Elt F) ℓ) (c : Dev nD)

/-- What the pipeline is told of the body: every input block left in place, the invariant `Phi`. Of the normalizer block `fgt` and
    `Rl` say what there is to say. -/
def dat : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => fun _ => Classical.arbitrary _
    | ⟨n + 17, h⟩ => absurd h (by show ¬ n + 17 < 17; omega)
  Φ t := Phi m c t.val
  q _ := fullShare
  owed _ := 0

/-- The window held to a predicate. -/
def fgt : Fin cfg0.W → Bool := fun w => w.val == 16
/-- The predicate: the columns of the pairs already met. -/
def Rl (w : Fin cfg0.W) (t : Fin cfg0.N) : ((cfg0.win w).block.Idx → Elt F (cfg0.win w).elt) → Prop :=
  match w with
  | ⟨16, _⟩ => fun X => NOK m c t.val X
  | _ => fun _ => True

theorem before_0 (t : Fin cfg0.N) (d) : (dat m c).before 0 t d = iblk m c 0 t :=
  ((dat m c).before_in_eq_fetched 0 rfl (fun _ => rfl) (fun _ _ _ => rfl) (fun _ => rfl) t d).trans rfl
theorem before_1 (t : Fin cfg0.N) (d) : (dat m c).before 1 t d = iblk m c 1 t :=
  ((dat m c).before_in_eq_fetched 1 rfl (fun _ => rfl) (fun _ _ _ => rfl) (fun _ => rfl) t d).trans rfl
theorem before_2 (t : Fin cfg0.N) (d) : (dat m c).before 2 t d = iblk m c 2 t :=
  ((dat m c).before_in_eq_fetched 2 rfl (fun _ => rfl) (fun _ _ _ => rfl) (fun _ => rfl) t d).trans rfl
theorem before_3 (t : Fin cfg0.N) (d) : (dat m c).before 3 t d = iblk m c 3 t :=
  ((dat m c).before_in_eq_fetched 3 rfl (fun _ => rfl) (fun _ _ _ => rfl) (fun _ => rfl) t d).trans rfl
theorem before_4 (t : Fin cfg0.N) (d) : (dat m c).before 4 t d = iblk m c 4 t :=
  ((dat m c).before_in_eq_fetched 4 rfl (fun _ => rfl) (fun _ _ _ => rfl) (fun _ => rfl) t d).trans rfl
theorem before_5 (t : Fin cfg0.N) (d) : (dat m c).before 5 t d = iblk m c 5 t :=
  ((dat m c).before_in_eq_fetched 5 rfl (fun _ => rfl) (fun _ _ _ => rfl) (fun _ => rfl) t d).trans rfl
theorem before_6 (t : Fin cfg0.N) (d) : (dat m c).before 6 t d = iblk m c 6 t :=
  ((dat m c).before_in_eq_fetched 6 rfl (fun _ => rfl) (fun _ _ _ => rfl) (fun _ => rfl) t d).trans rfl
theorem before_7 (t : Fin cfg0.N) (d) : (dat m c).before 7 t d = iblk m c 7 t :=
  ((dat m c).before_in_eq_fetched 7 rfl (fun _ => rfl) (fun _ _ _ => rfl) (fun _ => rfl) t d).trans rfl
theorem before_8 (t : Fin cfg0.N) (d) : (dat m c).before 8 t d = iblk m c 8 t :=
  ((dat m c).before_in_eq_fetched 8 rfl (fun _ => rfl) (fun _ _ _ => rfl) (fun _ => rfl) t d).trans rfl
theorem before_9 (t : Fin cfg0.N) (d) : (dat m c).before 9 t d = iblk m c 9 t :=
  ((dat m c).before_in_eq_fetched 9 rfl (fun _ => rfl) (fun _ _ _ => rfl) (fun _ => rfl) t d).trans rfl
theorem before_10 (t : Fin cfg0.N) (d) : (dat m c).before 10 t d = iblk m c 10 t :=
  ((dat m c).before_in_eq_fetched 10 rfl (fun _ => rfl) (fun _ _ _ => rfl) (fun _ => rfl) t d).trans rfl
theorem before_11 (t : Fin cfg0.N) (d) : (dat m c).before 11 t d = iblk m c 11 t :=
  ((dat m c).before_in_eq_fetched 11 rfl (fun _ => rfl) (fun _ _ _ => rfl) (fun _ => rfl) t d).trans rfl
theorem before_12 (t : Fin cfg0.N) (d) : (dat m c).before 12 t d = iblk m c 12 t :=
  ((dat m c).before_in_eq_fetched 12 rfl (fun _ => rfl) (fun _ _ _ => rfl) (fun _ => rfl) t d).trans rfl
theorem before_13 (t : Fin cfg0.N) (d) : (dat m c).before 13 t d = iblk m c 13 t :=
  ((dat m c).before_in_eq_fetched 13 rfl (fun _ => rfl) (fun _ _ _ => rfl) (fun _ => rfl) t d).trans rfl
theorem before_14 (t : Fin cfg0.N) (d) : (dat m c).before 14 t d = iblk m c 14 t :=
  ((dat m c).before_in_eq_fetched 14 rfl (fun _ => rfl) (fun _ _ _ => rfl) (fun _ => rfl) t d).trans rfl
theorem before_15 (t : Fin cfg0.N) (d) : (dat m c).before 15 t d = iblk m c 15 t :=
  ((dat m c).before_in_eq_fetched 15 rfl (fun _ => rfl) (fun _ _ _ => rfl) (fun _ => rfl) t d).trans rfl

/-- The normalizer block as point `t` finds it. -/
theorem found16 (t : Fin cfg0.N) (Y : S256x1024.Idx → Elt F .f32) (h : ((dat m c).toRRel fgt (Rl m c)).Finds 16 t Y) : NOK m c (t.val - 1) Y := by
  by_cases ht : t.val = 0
  · exact NOK_lt m c _ (by omega) Y
  · rcases (Pipeline.RDat.finds_of_pos (rd := (dat m c).toRRel fgt (Rl m c)) (w := 16) (t := t) rfl ht Y).mp h with hf | hl
    · have := (flush0_16 _).mp hf
      have h24 := lt24 t
      have e : (t.val - 1) % 24 = 23 := this
      omega
    · exact (dat m c).toRRel_leaves (w := 16) rfl hl

/-! ## The body -/

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (win0_10.stage (a.2 10)) (hstage0_10 ((a.2 10).cast nbuf0_10)) (win0_11.stage (a.2 11)) (hstage0_11 ((a.2 11).cast nbuf0_11)) (win0_12.stage (a.2 12)) (hstage0_12 ((a.2 12).cast nbuf0_12)) (win0_13.stage (a.2 13)) (hstage0_13 ((a.2 13).cast nbuf0_13)) (win0_14.stage (a.2 14)) (hstage0_14 ((a.2 14).cast nbuf0_14)) (win0_15.stage (a.2 15)) (hstage0_15 ((a.2 15).cast nbuf0_15)) (win0_16.stage (a.2 16)) (hstage0_16 ((a.2 16).cast nbuf0_16)) := rfl
theorem prog_eq (t : Fin cfg0.N) : (defs₀ (F := F)) .tc cfg0.body (cfg0.bodyArgs t (cfg0.slots t)) = bodyG (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) :=
  (congrFun defs_tc _).trans rfl

theorem pre_0 (t : Fin cfg0.N) : iprop(∃ d, owns (c : Thread nD τ) (st0_0 t) fullShare ((dat m c).before 0 t d)) ⊢ (owns (c : Thread nD τ) (st0_0 t) fullShare (iblk m c 0 t) : sProp 𝕄) := by
  iintro ⟨%d, H⟩; rw [before_0]; iexact H
theorem pre_1 (t : Fin cfg0.N) : iprop(∃ d, owns (c : Thread nD τ) (st0_1 t) fullShare ((dat m c).before 1 t d)) ⊢ (owns (c : Thread nD τ) (st0_1 t) fullShare (iblk m c 1 t) : sProp 𝕄) := by
  iintro ⟨%d, H⟩; rw [before_1]; iexact H
theorem pre_2 (t : Fin cfg0.N) : iprop(∃ d, owns (c : Thread nD τ) (st0_2 t) fullShare ((dat m c).before 2 t d)) ⊢ (owns (c : Thread nD τ) (st0_2 t) fullShare (iblk m c 2 t) : sProp 𝕄) := by
  iintro ⟨%d, H⟩; rw [before_2]; iexact H
theorem pre_3 (t : Fin cfg0.N) : iprop(∃ d, owns (c : Thread nD τ) (st0_3 t) fullShare ((dat m c).before 3 t d)) ⊢ (owns (c : Thread nD τ) (st0_3 t) fullShare (iblk m c 3 t) : sProp 𝕄) := by
  iintro ⟨%d, H⟩; rw [before_3]; iexact H
theorem pre_4 (t : Fin cfg0.N) : iprop(∃ d, owns (c : Thread nD τ) (st0_4 t) fullShare ((dat m c).before 4 t d)) ⊢ (owns (c : Thread nD τ) (st0_4 t) fullShare (iblk m c 4 t) : sProp 𝕄) := by
  iintro ⟨%d, H⟩; rw [before_4]; iexact H
theorem pre_5 (t : Fin cfg0.N) : iprop(∃ d, owns (c : Thread nD τ) (st0_5 t) fullShare ((dat m c).before 5 t d)) ⊢ (owns (c : Thread nD τ) (st0_5 t) fullShare (iblk m c 5 t) : sProp 𝕄) := by
  iintro ⟨%d, H⟩; rw [before_5]; iexact H
theorem pre_6 (t : Fin cfg0.N) : iprop(∃ d, owns (c : Thread nD τ) (st0_6 t) fullShare ((dat m c).before 6 t d)) ⊢ (owns (c : Thread nD τ) (st0_6 t) fullShare (iblk m c 6 t) : sProp 𝕄) := by
  iintro ⟨%d, H⟩; rw [before_6]; iexact H
theorem pre_7 (t : Fin cfg0.N) : iprop(∃ d, owns (c : Thread nD τ) (st0_7 t) fullShare ((dat m c).before 7 t d)) ⊢ (owns (c : Thread nD τ) (st0_7 t) fullShare (iblk m c 7 t) : sProp 𝕄) := by
  iintro ⟨%d, H⟩; rw [before_7]; iexact H
theorem pre_8 (t : Fin cfg0.N) : iprop(∃ d, owns (c : Thread nD τ) (st0_8 t) fullShare ((dat m c).before 8 t d)) ⊢ (owns (c : Thread nD τ) (st0_8 t) fullShare (iblk m c 8 t) : sProp 𝕄) := by
  iintro ⟨%d, H⟩; rw [before_8]; iexact H
theorem pre_9 (t : Fin cfg0.N) : iprop(∃ d, owns (c : Thread nD τ) (st0_9 t) fullShare ((dat m c).before 9 t d)) ⊢ (owns (c : Thread nD τ) (st0_9 t) fullShare (iblk m c 9 t) : sProp 𝕄) := by
  iintro ⟨%d, H⟩; rw [before_9]; iexact H
theorem pre_10 (t : Fin cfg0.N) : iprop(∃ d, owns (c : Thread nD τ) (st0_10 t) fullShare ((dat m c).before 10 t d)) ⊢ (owns (c : Thread nD τ) (st0_10 t) fullShare (iblk m c 10 t) : sProp 𝕄) := by
  iintro ⟨%d, H⟩; rw [before_10]; iexact H
theorem pre_11 (t : Fin cfg0.N) : iprop(∃ d, owns (c : Thread nD τ) (st0_11 t) fullShare ((dat m c).before 11 t d)) ⊢ (owns (c : Thread nD τ) (st0_11 t) fullShare (iblk m c 11 t) : sProp 𝕄) := by
  iintro ⟨%d, H⟩; rw [before_11]; iexact H
theorem pre_12 (t : Fin cfg0.N) : iprop(∃ d, owns (c : Thread nD τ) (st0_12 t) fullShare ((dat m c).before 12 t d)) ⊢ (owns (c : Thread nD τ) (st0_12 t) fullShare (iblk m c 12 t) : sProp 𝕄) := by
  iintro ⟨%d, H⟩; rw [before_12]; iexact H
theorem pre_13 (t : Fin cfg0.N) : iprop(∃ d, owns (c : Thread nD τ) (st0_13 t) fullShare ((dat m c).before 13 t d)) ⊢ (owns (c : Thread nD τ) (st0_13 t) fullShare (iblk m c 13 t) : sProp 𝕄) := by
  iintro ⟨%d, H⟩; rw [before_13]; iexact H
theorem pre_14 (t : Fin cfg0.N) : iprop(∃ d, owns (c : Thread nD τ) (st0_14 t) fullShare ((dat m c).before 14 t d)) ⊢ (owns (c : Thread nD τ) (st0_14 t) fullShare (iblk m c 14 t) : sProp 𝕄) := by
  iintro ⟨%d, H⟩; rw [before_14]; iexact H
theorem pre_15 (t : Fin cfg0.N) : iprop(∃ d, owns (c : Thread nD τ) (st0_15 t) fullShare ((dat m c).before 15 t d)) ⊢ (owns (c : Thread nD τ) (st0_15 t) fullShare (iblk m c 15 t) : sProp 𝕄) := by
  iintro ⟨%d, H⟩; rw [before_15]; iexact H
theorem post_0 (t : Fin cfg0.N) : owns (c : Thread nD τ) (st0_0 t) fullShare (iblk m c 0 t) ⊢ (owns (c : Thread nD τ) (st0_0 t) fullShare ((dat m c).after 0 t) : sProp 𝕄) := entails_of_eq rfl
theorem post_1 (t : Fin cfg0.N) : owns (c : Thread nD τ) (st0_1 t) fullShare (iblk m c 1 t) ⊢ (owns (c : Thread nD τ) (st0_1 t) fullShare ((dat m c).after 1 t) : sProp 𝕄) := entails_of_eq rfl
theorem post_2 (t : Fin cfg0.N) : owns (c : Thread nD τ) (st0_2 t) fullShare (iblk m c 2 t) ⊢ (owns (c : Thread nD τ) (st0_2 t) fullShare ((dat m c).after 2 t) : sProp 𝕄) := entails_of_eq rfl
theorem post_3 (t : Fin cfg0.N) : owns (c : Thread nD τ) (st0_3 t) fullShare (iblk m c 3 t) ⊢ (owns (c : Thread nD τ) (st0_3 t) fullShare ((dat m c).after 3 t) : sProp 𝕄) := entails_of_eq rfl
theorem post_4 (t : Fin cfg0.N) : owns (c : Thread nD τ) (st0_4 t) fullShare (iblk m c 4 t) ⊢ (owns (c : Thread nD τ) (st0_4 t) fullShare ((dat m c).after 4 t) : sProp 𝕄) := entails_of_eq rfl
theorem post_5 (t : Fin cfg0.N) : owns (c : Thread nD τ) (st0_5 t) fullShare (iblk m c 5 t) ⊢ (owns (c : Thread nD τ) (st0_5 t) fullShare ((dat m c).after 5 t) : sProp 𝕄) := entails_of_eq rfl
theorem post_6 (t : Fin cfg0.N) : owns (c : Thread nD τ) (st0_6 t) fullShare (iblk m c 6 t) ⊢ (owns (c : Thread nD τ) (st0_6 t) fullShare ((dat m c).after 6 t) : sProp 𝕄) := entails_of_eq rfl
theorem post_7 (t : Fin cfg0.N) : owns (c : Thread nD τ) (st0_7 t) fullShare (iblk m c 7 t) ⊢ (owns (c : Thread nD τ) (st0_7 t) fullShare ((dat m c).after 7 t) : sProp 𝕄) := entails_of_eq rfl
theorem post_8 (t : Fin cfg0.N) : owns (c : Thread nD τ) (st0_8 t) fullShare (iblk m c 8 t) ⊢ (owns (c : Thread nD τ) (st0_8 t) fullShare ((dat m c).after 8 t) : sProp 𝕄) := entails_of_eq rfl
theorem post_9 (t : Fin cfg0.N) : owns (c : Thread nD τ) (st0_9 t) fullShare (iblk m c 9 t) ⊢ (owns (c : Thread nD τ) (st0_9 t) fullShare ((dat m c).after 9 t) : sProp 𝕄) := entails_of_eq rfl
theorem post_10 (t : Fin cfg0.N) : owns (c : Thread nD τ) (st0_10 t) fullShare (iblk m c 10 t) ⊢ (owns (c : Thread nD τ) (st0_10 t) fullShare ((dat m c).after 10 t) : sProp 𝕄) := entails_of_eq rfl
theorem post_11 (t : Fin cfg0.N) : owns (c : Thread nD τ) (st0_11 t) fullShare (iblk m c 11 t) ⊢ (owns (c : Thread nD τ) (st0_11 t) fullShare ((dat m c).after 11 t) : sProp 𝕄) := entails_of_eq rfl
theorem post_12 (t : Fin cfg0.N) : owns (c : Thread nD τ) (st0_12 t) fullShare (iblk m c 12 t) ⊢ (owns (c : Thread nD τ) (st0_12 t) fullShare ((dat m c).after 12 t) : sProp 𝕄) := entails_of_eq rfl
theorem post_13 (t : Fin cfg0.N) : owns (c : Thread nD τ) (st0_13 t) fullShare (iblk m c 13 t) ⊢ (owns (c : Thread nD τ) (st0_13 t) fullShare ((dat m c).after 13 t) : sProp 𝕄) := entails_of_eq rfl
theorem post_14 (t : Fin cfg0.N) : owns (c : Thread nD τ) (st0_14 t) fullShare (iblk m c 14 t) ⊢ (owns (c : Thread nD τ) (st0_14 t) fullShare ((dat m c).after 14 t) : sProp 𝕄) := entails_of_eq rfl
theorem post_15 (t : Fin cfg0.N) : owns (c : Thread nD τ) (st0_15 t) fullShare (iblk m c 15 t) ⊢ (owns (c : Thread nD τ) (st0_15 t) fullShare ((dat m c).after 15 t) : sProp 𝕄) := entails_of_eq rfl

theorem point0 (t : Fin cfg0.N) :
    iprop(Phi m c t.val ∗ (∃ W, owes (c : Thread nD τ) 0 W) ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ (∃ Y, ⌜NOK m c (t.val - 1) Y⌝ ∗ owns (c : Thread nD τ) (st0_16 t) fullShare Y))
      ⊢ wp frame (wpE (defs₀ (F := F)) 𝒱₀ (c : Thread nD τ) none) Set.univ (bodyG (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16))) fun _ =>
        iprop(Phi m c (t.val + 1) ∗ (∃ W, owes (c : Thread nD τ) 0 W) ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ (∃ X, ⌜NOK m c t.val X⌝ ∗ owns (c : Thread nD τ) (st0_16 t) fullShare X)) := by
  simp only [owns_eq_rep]
  iintro ⟨HP, ⟨%W, HW⟩, H0, H1, H2, H3, H4, H5, H6, H7, H8, H9, H10, H11, H12, H13, H14, H15, ⟨%Y, %hY, H16⟩⟩
  iapply (wp_wand_r Idealize.ShloMosaic.frame (wpE (defs₀ (F := F)) 𝒱₀ (c : Thread nD τ) none) Set.univ)
  isplitl [HP HW H0 H1 H2 H3 H4 H5 H6 H7 H8 H9 H10 H11 H12 H13 H14 H15 H16]
  · iapply (core m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) Y hY W)
    isplitl [HP]; · iexact HP
    isplitl [H0 H1 H2 H8 H9 H10 H11 H12 H13 H14 H15]
    · isplitl [H0]; · iexact H0
      isplitl [H1]; · iexact H1
      isplitl [H2]; · iexact H2
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [H3 H4 H5 H6 H7]
    · isplitl [H3]; · iexact H3
      isplitl [H4]; · iexact H4
      isplitl [H5]; · iexact H5
      isplitl [H6]; · iexact H6
      iexact H7
    isplitl [H16]; · iexact H16
    iexact HW
  iintro %_ ⟨HP, ⟨H0, H1, H2, H8, H9, H10, H11, H12, H13, H14, H15⟩, ⟨H3, H4, H5, H6, H7⟩, ⟨%Y', %hY', H16⟩, HW⟩
  isplitl [HP]; · iexact HP
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists Y'; isplitr; (ipureintro; exact hY'); iexact H16

theorem owes_in (t : Fin (cfg0.N + 1)) : (dat m c).owesAt () t ⊢ (∃ W, owes (c : Thread nD τ) 0 W : sProp 𝕄) := by
  unfold Dat.owesAt Pipeline.owesWithin
  iintro ⟨%W, -, HW⟩
  iexists W; iexact HW
theorem owes_out (t : Fin (cfg0.N + 1)) : (∃ W, owes (c : Thread nD τ) 0 W : sProp 𝕄) ⊢ (dat m c).owesAt () t := by
  unfold Dat.owesAt Pipeline.owesWithin
  iintro ⟨%W, HW⟩
  iexists W; isplitr; (ipureintro; exact fun _ _ => Or.inl trivial); iexact HW
theorem found_in (t : Fin cfg0.N) : iprop(∃ Y, ⌜((dat m c).toRRel fgt (Rl m c)).Finds 16 t Y⌝ ∗ owns (c : Thread nD τ) (st0_16 t) fullShare Y)
    ⊢ (iprop(∃ Y, ⌜NOK m c (t.val - 1) Y⌝ ∗ owns (c : Thread nD τ) (st0_16 t) fullShare Y) : sProp 𝕄) := by
  iintro ⟨%Y, %hY, H⟩
  iexists Y; isplitr; (ipureintro; exact found16 m c t Y hY); iexact H

set_option backward.isDefEq.respectTransparency.types false in
theorem point (t : Fin cfg0.N) :
    iprop((dat m c).Φ t.castSucc ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ d, owns (c : Thread nD τ) (st0_10 t) fullShare ((dat m c).before 10 t d)) ∗ (∃ d, owns (c : Thread nD τ) (st0_11 t) fullShare ((dat m c).before 11 t d)) ∗ (∃ d, owns (c : Thread nD τ) (st0_12 t) fullShare ((dat m c).before 12 t d)) ∗ (∃ d, owns (c : Thread nD τ) (st0_13 t) fullShare ((dat m c).before 13 t d)) ∗ (∃ d, owns (c : Thread nD τ) (st0_14 t) fullShare ((dat m c).before 14 t d)) ∗ (∃ d, owns (c : Thread nD τ) (st0_15 t) fullShare ((dat m c).before 15 t d)) ∗ (∃ Y, ⌜((dat m c).toRRel fgt (Rl m c)).Finds 16 t Y⌝ ∗ owns (c : Thread nD τ) (st0_16 t) fullShare Y))
      ⊢ wp frame (wpE (defs₀ (F := F)) 𝒱₀ (c : Thread nD τ) none) Set.univ ((defs₀ (F := F)) .tc cfg0.body (cfg0.bodyArgs t (cfg0.slots t))) fun _ =>
        iprop((dat m c).Φ t.succ ∗ (dat m c).owesAt () t.succ ∗ owns (c : Thread nD τ) (st0_0 t) fullShare ((dat m c).after 0 t) ∗ owns (c : Thread nD τ) (st0_1 t) fullShare ((dat m c).after 1 t) ∗ owns (c : Thread nD τ) (st0_2 t) fullShare ((dat m c).after 2 t) ∗ owns (c : Thread nD τ) (st0_3 t) fullShare ((dat m c).after 3 t) ∗ owns (c : Thread nD τ) (st0_4 t) fullShare ((dat m c).after 4 t) ∗ owns (c : Thread nD τ) (st0_5 t) fullShare ((dat m c).after 5 t) ∗ owns (c : Thread nD τ) (st0_6 t) fullShare ((dat m c).after 6 t) ∗ owns (c : Thread nD τ) (st0_7 t) fullShare ((dat m c).after 7 t) ∗ owns (c : Thread nD τ) (st0_8 t) fullShare ((dat m c).after 8 t) ∗ owns (c : Thread nD τ) (st0_9 t) fullShare ((dat m c).after 9 t) ∗ owns (c : Thread nD τ) (st0_10 t) fullShare ((dat m c).after 10 t) ∗ owns (c : Thread nD τ) (st0_11 t) fullShare ((dat m c).after 11 t) ∗ owns (c : Thread nD τ) (st0_12 t) fullShare ((dat m c).after 12 t) ∗ owns (c : Thread nD τ) (st0_13 t) fullShare ((dat m c).after 13 t) ∗ owns (c : Thread nD τ) (st0_14 t) fullShare ((dat m c).after 14 t) ∗ owns (c : Thread nD τ) (st0_15 t) fullShare ((dat m c).after 15 t) ∗ (∃ X, ⌜Rl m c 16 t X⌝ ∗ owns (c : Thread nD τ) (st0_16 t) fullShare X)) := by
  rw [prog_eq t]
  refine BIBase.Entails.trans ?_ ((point0 m c t).trans (wp_mono Idealize.ShloMosaic.frame (wpE (defs₀ (F := F)) 𝒱₀ (c : Thread nD τ) none) Set.univ fun _ => ?_))
  · exact BI.sep_mono (.refl _) (BI.sep_mono (owes_in m c _) (BI.sep_mono (pre_0 m c t) (BI.sep_mono (pre_1 m c t) (BI.sep_mono (pre_2 m c t) (BI.sep_mono (pre_3 m c t) (BI.sep_mono (pre_4 m c t) (BI.sep_mono (pre_5 m c t) (BI.sep_mono (pre_6 m c t) (BI.sep_mono (pre_7 m c t) (BI.sep_mono (pre_8 m c t) (BI.sep_mono (pre_9 m c t) (BI.sep_mono (pre_10 m c t) (BI.sep_mono (pre_11 m c t) (BI.sep_mono (pre_12 m c t) (BI.sep_mono (pre_13 m c t) (BI.sep_mono (pre_14 m c t) (BI.sep_mono (pre_15 m c t) (found_in m c t))))))))))))))))))
  · exact BI.sep_mono (.refl _) (BI.sep_mono (owes_out m c _) (BI.sep_mono (post_0 m c t) (BI.sep_mono (post_1 m c t) (BI.sep_mono (post_2 m c t) (BI.sep_mono (post_3 m c t) (BI.sep_mono (post_4 m c t) (BI.sep_mono (post_5 m c t) (BI.sep_mono (post_6 m c t) (BI.sep_mono (post_7 m c t) (BI.sep_mono (post_8 m c t) (BI.sep_mono (post_9 m c t) (BI.sep_mono (post_10 m c t) (BI.sep_mono (post_11 m c t) (BI.sep_mono (post_12 m c t) (BI.sep_mono (post_13 m c t) (BI.sep_mono (post_14 m c t) (BI.sep_mono (post_15 m c t) (.refl _))))))))))))))))))

set_option backward.isDefEq.respectTransparency.types false in
theorem obligation : Pipeline.BodyObligationRel (dat m c) (defs₀ (F := F)) 𝒱₀ () Set.univ fgt (Rl m c) := fun t => by
  rw [bigSep_W0, bigSep_W0]
  exact point m c t

end Obligation

end Cert.Proof.I

end
-- ==== Proof.IdealLaunch.lean ====
/- The launch and what it leaves. -/
module

public import proofs.«01_k».proof.Proof.IdealDat
public import Idealize.ShloMosaic.Lib.Pipeline.ArrRel
public import Idealize.ShloMosaic.Lib.Pipeline.FrameValue

@[expose] public section

set_option maxRecDepth 16384

noncomputable section

namespace Cert.Proof.I

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf UD)

variable {F : FTy → Type} [FloatOps F]

local notation "𝕄" => MT nD τ sig Unit (Elt F) ℕ (UD sig nD τ) ℕ

section Launch
variable (m : (ℓ : Loc nD τ sig) → Buf (Elt F) ℓ)

/-! ## The kernel's own cells, the pairs of the arrays, the slots of the ring -/

/-- The six cells: three for the copies in, three for the copies out. -/
abbrev own : Fin 6 → SemLoc sig := ![.dma (isem 0).sem, .dma (isem 1).sem, .dma (isem 2).sem, .dma (osem 0).sem, .dma (osem 1).sem, .dma (osem 2).sem]
theorem ownFacts : Pipeline.OwnSemFacts spec0 own := by decide

abbrev B8 (b : Fin 8) : Finset S256x8x8192.Idx := (Rect.unit (s := S256x8x8192) (blkOff b) S256x1x8192.size (blkOff_inb b)).set
abbrev R3 (s : Fin 3) : Finset S3x256x8192.Idx := (Rect.unit (s := S3x256x8192) (slotOff s) S1x256x8192.size (slotOff_inb s)).set

omit [FloatOps F] in
theorem mblk_set (b : Fin 8) : (mblk b).view.set = B8 b := (View.set_reshape _ _).trans (View.set_slice_whole _ _)
omit [FloatOps F] in
theorem oblk_set (b : Fin 8) : (oblk b).view.set = B8 b := (View.set_reshape _ _).trans (View.set_slice_whole _ _)
omit [FloatOps F] in
theorem rslot_set (s : Fin 3) : (rslot s).view.set = R3 s := (View.set_reshape _ _).trans (View.set_slice_whole _ _)

theorem mem_B8 (b : Fin 8) (y : S256x8x8192.Idx) : y ∈ B8 b ↔ (y 1).val = b.val := by
  rw [Rect.mem_set_unit]
  have h0 : (y 0).val < 256 := (y 0).isLt
  have h2 : (y 2).val < 8192 := (y 2).isLt
  refine ⟨fun H => ?_, fun H i => ?_⟩
  · have a : b.val ≤ (y 1).val ∧ (y 1).val < b.val + 1 := H 1
    omega
  · fin_cases i
    · show 0 ≤ (y 0).val ∧ (y 0).val < 0 + 256; omega
    · show b.val ≤ (y 1).val ∧ (y 1).val < b.val + 1; omega
    · show 0 ≤ (y 2).val ∧ (y 2).val < 0 + 8192; omega
theorem mem_R3 (s : Fin 3) (y : S3x256x8192.Idx) : y ∈ R3 s ↔ (y 0).val = s.val := by
  rw [Rect.mem_set_unit]
  have h0 : (y 1).val < 256 := (y 1).isLt
  have h2 : (y 2).val < 8192 := (y 2).isLt
  refine ⟨fun H => ?_, fun H i => ?_⟩
  · have a : s.val ≤ (y 0).val ∧ (y 0).val < s.val + 1 := H 0
    omega
  · fin_cases i
    · show s.val ≤ (y 0).val ∧ (y 0).val < s.val + 1; omega
    · show 0 ≤ (y 1).val ∧ (y 1).val < 0 + 256; omega
    · show 0 ≤ (y 2).val ∧ (y 2).val < 0 + 8192; omega
theorem B8_disjoint : ∀ b b' : Fin 8, b ≠ b' → Disjoint (B8 b) (B8 b') := fun b b' hne =>
  Finset.disjoint_left.mpr fun y h h' => hne (Fin.ext (((mem_B8 b y).mp h).symm.trans ((mem_B8 b' y).mp h')))
theorem B8_cover : (Finset.univ : Finset (Fin 8)).biUnion B8 = Finset.univ :=
  Finset.eq_univ_iff_forall.mpr fun y => Finset.mem_biUnion.mpr ⟨(y 1).cast (by decide), Finset.mem_univ _, (mem_B8 _ y).mpr rfl⟩
theorem R3_disjoint : ∀ s s' : Fin 3, s ≠ s' → Disjoint (R3 s) (R3 s') := fun s s' hne =>
  Finset.disjoint_left.mpr fun y h h' => hne (Fin.ext (((mem_R3 s y).mp h).symm.trans ((mem_R3 s' y).mp h')))
theorem R3_cover : (Finset.univ : Finset (Fin 3)).biUnion R3 = Finset.univ :=
  Finset.eq_univ_iff_forall.mpr fun y => Finset.mem_biUnion.mpr ⟨(y 0).cast (by decide), Finset.mem_univ _, (mem_R3 _ y).mpr rfl⟩

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem ownSems_eq (c : Dev nD) : (Pipeline.ownSems0 (Ix := Unit) (Name := ℕ) (U := UD sig nD τ) (Lvl := ℕ) (Val := Elt F) (τ := τ) own c : sProp 𝕄)
    = iprop(cellP c (isem 0) ∗ cellP c (isem 1) ∗ cellP c (isem 2) ∗ cellP c (osem 0) ∗ cellP c (osem 1) ∗ cellP c (osem 2)) := by
  unfold Pipeline.ownSems0
  exact bigSep_univ_eq_bigSepL [0, 1, 2, 3, 4, 5] (by decide) (by decide) _

omit [FloatOps F] in
/-- The memory array whole is its eight pairs. -/
theorem mem_split (c : Dev nD) (X : Buf (Elt F) (mM.view.loc (c : Thread nD τ))) :
    (((c : Thread nD τ).loc main_v0) ↦{fullShare} X : sProp 𝕄) = iprop(homeP c X 0 ∗ homeP c X 1 ∗ homeP c X 2 ∗ homeP c X 3 ∗ homeP c X 4 ∗ homeP c X 5 ∗ homeP c X 6 ∗ homeP c X 7) := by
  rw [Ring.pointsTo_blocks (ℓ := (c : Thread nD τ).loc main_v0) B8 B8_disjoint B8_cover, ← bigSep_fin8]
  exact bigSep_congr fun b _ => by rw [← mblk_set]; rfl
omit [FloatOps F] in
/-- The result whole is its eight pairs. -/
theorem out_split (c : Dev nD) (X : Buf (Elt F) (oM.view.loc (c : Thread nD τ))) :
    (((c : Thread nD τ).loc main_v37_0) ↦{fullShare} X : sProp 𝕄) = iprop(freshP c X 0 ∗ freshP c X 1 ∗ freshP c X 2 ∗ freshP c X 3 ∗ freshP c X 4 ∗ freshP c X 5 ∗ freshP c X 6 ∗ freshP c X 7) := by
  rw [Ring.pointsTo_blocks (ℓ := (c : Thread nD τ).loc main_v37_0) B8 B8_disjoint B8_cover, ← bigSep_fin8]
  exact bigSep_congr fun b _ => by rw [← oblk_set]; rfl
omit [FloatOps F] in
theorem rslot_eq (c : Dev nD) (s : Fin 3) (f) : bufP c (rslot s) f = (((c : Thread nD τ).loc cc0_scratch1) ↦[R3 s]{fullShare} f : sProp 𝕄) :=
  congrArg (fun S => (_ ↦[S]{fullShare} f : sProp 𝕄)) (rslot_set s)
/-- The ring whole is its three slots, -/
theorem ring_split (c : Dev nD) : iprop(∃ f : Buf (Elt F) ((c : Thread nD τ).loc cc0_scratch1), ((c : Thread nD τ).loc cc0_scratch1) ↦{fullShare} f)
    ⊢ (iprop(freeP c 0 ∗ freeP c 1 ∗ freeP c 2) : sProp 𝕄) := by
  iintro ⟨%f, H⟩
  ihave H2 := (entails_of_eq ((Ring.pointsTo_blocks (Ix := Unit) (Name := ℕ) (U := UD sig nD τ) (Lvl := ℕ) (q := fullShare) (ℓ := (c : Thread nD τ).loc cc0_scratch1) R3 R3_disjoint R3_cover f).trans (bigSep_fin3 _))) $$ H
  icases H2 with ⟨H0, H1, H2⟩
  isplitl [H0]; · iexists f; iapply (entails_of_eq (rslot_eq c 0 f).symm); iexact H0
  isplitl [H1]; · iexists f; iapply (entails_of_eq (rslot_eq c 1 f).symm); iexact H1
  iexists f; iapply (entails_of_eq (rslot_eq c 2 f).symm); iexact H2
/-- and back. -/
theorem ring_join (c : Dev nD) : iprop(freeP c 0 ∗ freeP c 1 ∗ freeP c 2)
    ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch1) R3 R3_disjoint R3_cover f0)
  irw [bigSep_fin3]
  isplitl [H0]; · iexists f0; iapply (entails_of_eq (rslot_eq c 0 f0)); iexact H0
  isplitl [H1]; · iexists f1; iapply (entails_of_eq (rslot_eq c 1 f1)); iexact H1
  iexists f2; iapply (entails_of_eq (rslot_eq c 2 f2)); iexact H2

/-! ## The result array -/

/-- What the run leaves in the updated memory. -/
def GO (c : Dev nD) : S256x8x8192.Idx → Elt F .f32 := fun j => vO m c (j 1) (ix2 (j 0) (j 2))
/-- What the run leaves in the updated normalizer. -/
def GN (c : Dev nD) : S256x1024.Idx → Elt F .f32 := fun y => nO m c ((y 1).val / 128) (ix2 (y 0) ⟨(y 1).val % 128, Nat.mod_lt _ (by decide)⟩)

theorem blk_idx (b : Fin 8) (y : S256x8192.Idx) :
    (Rect.unit (s := S256x8x8192) (blkOff b) S256x1x8192.size (blkOff_inb b)).idx (ix3 (y 0) 0 (y 1)) = (ix3 (y 0) b (y 1) : S256x8x8192.Idx) := by
  funext a; refine Fin.ext ?_
  fin_cases a
  · show 0 + 1 * (y 0).val = (y 0).val; omega
  · show b.val + 1 * 0 = b.val; omega
  · show 0 + 1 * (y 1).val = (y 1).val; omega

/-- Pair `b` of an array of eight. -/
theorem read_oblk (c : Dev nD) (b : Fin 8) (f : S256x8x8192.Idx → Elt F .f32) :
    (oblk b).view.read (Elt F) (show Buf (Elt F) ((oblk b).view.loc (c : Thread nD τ)) from f) = fun y => f (ix3 (y 0) b (y 1)) := by
  funext y
  have hc : S256x1x8192.ShapeCasts S256x8192 := by decide +kernel
  have hi : (S256x1x8192.rowMajor (ix3 (y 0) 0 (y 1))).val = (S256x8192.rowMajor y).val := by
    rw [Shape.rowMajor_val_three, Shape.rowMajor_val_two]
    show ((y 0).val * 1 + 0) * 8192 + (y 1).val = (y 0).val * 8192 + (y 1).val; omega
  exact (shapeCast_apply (s := S256x1x8192) (t := S256x8192) (oM.view.readAt (Elt F) (Rect.unit (s := S256x8x8192) (blkOff b) S256x1x8192.size (blkOff_inb b)).toLoadRect f) hc y (ix3 (y 0) 0 (y 1)) hi).trans
    (congrArg f (blk_idx b y))
theorem read_mblk (c : Dev nD) (b : Fin 8) (f : S256x8x8192.Idx → Elt F .f32) :
    (mblk b).view.read (Elt F) (show Buf (Elt F) ((mblk b).view.loc (c : Thread nD τ)) from f) = fun y => f (ix3 (y 0) b (y 1)) := by
  funext y
  have hc : S256x1x8192.ShapeCasts S256x8192 := by decide +kernel
  have hi : (S256x1x8192.rowMajor (ix3 (y 0) 0 (y 1))).val = (S256x8192.rowMajor y).val := by
    rw [Shape.rowMajor_val_three, Shape.rowMajor_val_two]
    show ((y 0).val * 1 + 0) * 8192 + (y 1).val = (y 0).val * 8192 + (y 1).val; omega
  exact (shapeCast_apply (s := S256x1x8192) (t := S256x8192) (mM.view.readAt (Elt F) (Rect.unit (s := S256x8x8192) (blkOff b) S256x1x8192.size (blkOff_inb b)).toLoadRect f) hc y (ix3 (y 0) 0 (y 1)) hi).trans
    (congrArg f (blk_idx b y))

theorem done_eq (c : Dev nD) (b : Fin 8) : (doneP c (vO m c) b : sProp 𝕄) = freshP c (show Buf (Elt F) (oM.view.loc (c : Thread nD τ)) from GO m c) b := by
  refine Eq.trans ?_ (pointsTo_rep (c : Thread nD τ) (oblk b) (show Buf (Elt F) ((oblk b).view.loc (c : Thread nD τ)) from GO m c) fullShare).symm
  rw [read_oblk c b (GO m c)]
  have e : (fun y => GO m c (ix3 (y 0) b (y 1))) = vO m c b := by
    funext y
    exact congrArg (vO m c b) (funext fun a => by fin_cases a <;> rfl)
  rw [e]

/-! ## Entering and leaving the grid -/

/-- The arrays at the end: the updated memory at `GO`. -/
def VG (c : Dev nD) : (b : Ref sig .tc) → Buf (Elt F) ((c : Thread nD τ).loc b) := Function.update (V m c) main_v37_0 (GO m c)

theorem Phi_zero (c : Dev nD) : Phi m c 0 = iprop((∃ r, prngReg c r) ∗ (∃ G, ⌜GOK m c 0 G⌝ ∗ winP c gM G) ∗ St c (XM m c) (XO m c) (vO m c) 0) := rfl
theorem Phi_last (c : Dev nD) : Phi m c 24 = iprop((∃ r, prngReg c r) ∗ (∃ G, ⌜GOK m c 24 G⌝ ∗ winP c gM G) ∗ St c (XM m c) (XO m c) (vO m c) 9) := rfl

theorem whole_in (c : Dev nD) (f : Buf (Elt F) ((c : Thread nD τ).loc cc0_scratch0)) :
    (((c : Thread nD τ).loc cc0_scratch0) ↦{fullShare} f : sProp 𝕄) ⊢ winP c gM (gM.view.read (Elt F) f) :=
  (entails_of_eq (congrArg (fun S => (((c : Thread nD τ).loc cc0_scratch0) ↦[S]{fullShare} f : sProp 𝕄)) (View.set_whole cc0_scratch0).symm)).trans
    (pointsTo_rep_of_read (c : Thread nD τ) gM f fullShare _ rfl)
theorem whole_out (c : Dev nD) (G : S256x4096.Idx → Elt F .f32) :
    (winP c gM G : sProp 𝕄) ⊢ iprop(∃ f : Buf (Elt F) ((c : Thread nD τ).loc cc0_scratch0), ((c : Thread nD τ).loc cc0_scratch0) ↦{fullShare} f) := by
  iintro H
  iexists (gM.view.rep G)
  iapply (entails_of_eq (congrArg (fun S => (((c : Thread nD τ).loc cc0_scratch0) ↦[S]{fullShare} (gM.view.rep G) : sProp 𝕄)) (View.set_whole cc0_scratch0)))
  iexact H

theorem enter (c : Dev nD) : Pipeline.ΦDRG own spec0 {main_v0} {main_v37_0} (V m) (V m) c ⊢ (Phi m c 0 : sProp 𝕄) := by
  rw [Pipeline.ΦDRG_eq, scopedRest0_eq, ownSems_eq, BI.bigSep_singleton, Pipeline.routed_singleton, mem_split c (V m c main_v0), out_split c (V m c main_v37_0), Phi_zero, St_0]
  iintro ⟨⟨⟨%f, Hg⟩, Hr⟩, HP, ⟨i0, i1, i2, o0, o1, o2⟩, ⟨H0, H1, H2, H3, H4, H5, H6, H7⟩, ⟨O0, O1, O2, O3, O4, O5, O6, O7⟩⟩
  isplitl [HP]; · iexact HP
  isplitl [Hg]
  · iexists (gM.view.read (Elt F) f)
    isplitr; (ipureintro; exact fun y hy => absurd hy (by omega))
    iapply (whole_in c f); iexact Hg
  ihave Hs := (ring_split c) $$ Hr
  icases Hs with ⟨s0, s1, s2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [i0]; · iexact i0
  isplitl [i1]; · iexact i1
  isplitl [i2]; · iexact i2
  isplitl [o0]; · iexact o0
  isplitl [o1]; · iexact o1
  isplitl [o2]; · iexact o2
  isplitl [s0]; · iexact s0
  isplitl [s1]; · iexact s1
  iexact s2

theorem leave (c : Dev nD) : (Phi m c 24 : sProp 𝕄) ⊢ Pipeline.ΦDRG own spec0 {main_v0} {main_v37_0} (V m) (VG m) c := by
  have eG : VG m c main_v37_0 = GO m c := Function.update_self _ _ _
  rw [Pipeline.ΦDRG_eq, scopedRest0_eq, ownSems_eq, BI.bigSep_singleton, Pipeline.routed_singleton, mem_split c (V m c main_v0), eG, out_split c (GO m c), Phi_last, St_9]
  simp only [done_eq]
  iintro ⟨HP, ⟨%G, -, Hg⟩, H0, H1, H2, H3, H4, H5, H6, H7, O0, O1, O2, O3, O4, O5, O6, O7, i0, i1, i2, o0, o1, o2, s0, s1, s2⟩
  isplitl [Hg s0 s1 s2]
  · isplitl [Hg]
    · iapply (whole_out c G); iexact Hg
    · iapply (ring_join c)
      isplitl [s0]; · iexact s0
      isplitl [s1]; · iexact s1
      iexact s2
  isplitl [HP]; · iexact HP
  isplitl [i0 i1 i2 o0 o1 o2]
  · skip
    isplitl [i0]; · iexact i0
    isplitl [i1]; · iexact i1
    isplitl [i2]; · iexact i2
    isplitl [o0]; · iexact o0
    isplitl [o1]; · iexact o1
    iexact o2
  isplitl [H0 H1 H2 H3 H4 H5 H6 H7]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [O0]; · iexact O0
  isplitl [O1]; · iexact O1
  isplitl [O2]; · iexact O2
  isplitl [O3]; · iexact O3
  isplitl [O4]; · iexact O4
  isplitl [O5]; · iexact O5
  isplitl [O6]; · iexact O6
  iexact O7

/-! ## The run -/

/-- The data the launch is given. -/
abbrev rdat (c : Dev nD) := (dat m c).toRRel fgt (Rl m c)

set_option backward.isDefEq.respectTransparency.types false in
theorem run_main (g : Dev nD → PrngReg) : θ_run defs (onTc (τ := τ) (main (F := F))) (s₀ m g)
    (fun r => Pipeline.RDat.FramePostRG cfg0 (rdat m) {main_v37_0} (V m) (VG m) r ∧ r.2.sem = fun _ => 0) :=
  Pipeline.RDat.θ_run_frame_dmaRG cfgs 0 launch0 own defs₀ 𝒱₀ (rdat m) ownFacts {main_v0} {main_v37_0} (by decide) (by decide) m g main
    (hbody := fun c => (obligation m c).toRRel) (hshare := fun c => (dat m c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (G := VG m) (hin := fun c => enter m c) (hout := fun c => leave m c)
    (Q' := fun r => Pipeline.RDat.FramePostRG cfg0 (rdat m) {main_v37_0} (V m) (VG m) r ∧ r.2.sem = fun _ => 0) (hQ' := fun _ h => h)

/-- The last point writes the normalizer block back whole. -/
theorem wholeAt : win0_16.WholeAt (⟨23, by decide⟩ : Fin grid0.N) := by decide +kernel

/-- The normalizer after the run. -/
theorem norm_of (c : Dev nD) (G : Buf (Elt F) ((c : Thread nD τ).loc main_v37_1)) (h : (rdat m c).ArrAt 16 cfg0.N G) : G = GN m c := by
  obtain ⟨X, hX, e⟩ := h.emb_eq_of_wholeAt wholeAt
  have hX' : NOK m c 23 X := (dat m c).toRRel_leaves (w := 16) rfl hX
  funext y
  have ey := e y
  refine Eq.trans (ey : G y = X y) (hX' y ?_)
  have := (y 1).isLt
  have h1 : (y 1).val < 1024 := this
  omega

theorem arg_0 (r : PUnit × MemSt nD τ sig (Elt F)) (h : Pipeline.RDat.FramePostR cfg0 (rdat m) {main_v37_0} (V m) r) (c : Dev nD) : r.2.mem ((c.tc : Thread nD τ).loc main_arg0) = m ((c.tc : Thread nD τ).loc main_arg0) :=
  (h.arr_in c 0 rfl).trans (V_main_arg0 m c)
theorem arg_1 (r : PUnit × MemSt nD τ sig (Elt F)) (h : Pipeline.RDat.FramePostR cfg0 (rdat m) {main_v37_0} (V m) r) (c : Dev nD) : r.2.mem ((c.tc : Thread nD τ).loc main_arg1) = m ((c.tc : Thread nD τ).loc main_arg1) :=
  ((h c).2 main_arg1 (Finset.mem_sdiff.mpr ⟨Pipeline.mem_restRefs_of main_arg1 (by decide) (by decide), by decide⟩)).trans (V_main_arg1 m c)
theorem arg_2 (r : PUnit × MemSt nD τ sig (Elt F)) (h : Pipeline.RDat.FramePostR cfg0 (rdat m) {main_v37_0} (V m) r) (c : Dev nD) : r.2.mem ((c.tc : Thread nD τ).loc main_arg2) = m ((c.tc : Thread nD τ).loc main_arg2) :=
  ((h c).2 main_arg2 (Finset.mem_sdiff.mpr ⟨Pipeline.mem_restRefs_of main_arg2 (by decide) (by decide), by decide⟩)).trans (V_main_arg2 m c)
theorem arg_3 (r : PUnit × MemSt nD τ sig (Elt F)) (h : Pipeline.RDat.FramePostR cfg0 (rdat m) {main_v37_0} (V m) r) (c : Dev nD) : r.2.mem ((c.tc : Thread nD τ).loc main_arg3) = m ((c.tc : Thread nD τ).loc main_arg3) :=
  (h.arr_in c 1 rfl).trans (V_main_arg3 m c)
theorem arg_4 (r : PUnit × MemSt nD τ sig (Elt F)) (h : Pipeline.RDat.FramePostR cfg0 (rdat m) {main_v37_0} (V m) r) (c : Dev nD) : r.2.mem ((c.tc : Thread nD τ).loc main_arg4) = m ((c.tc : Thread nD τ).loc main_arg4) :=
  (h.arr_in c 2 rfl).trans (V_main_arg4 m c)
theorem arg_5 (r : PUnit × MemSt nD τ sig (Elt F)) (h : Pipeline.RDat.FramePostR cfg0 (rdat m) {main_v37_0} (V m) r) (c : Dev nD) : r.2.mem ((c.tc : Thread nD τ).loc main_arg5) = m ((c.tc : Thread nD τ).loc main_arg5) :=
  (h.arr_in c 8 rfl).trans (V_main_arg5 m c)
theorem arg_6 (r : PUnit × MemSt nD τ sig (Elt F)) (h : Pipeline.RDat.FramePostR cfg0 (rdat m) {main_v37_0} (V m) r) (c : Dev nD) : r.2.mem ((c.tc : Thread nD τ).loc main_arg6) = m ((c.tc : Thread nD τ).loc main_arg6) :=
  ((h c).2 main_arg6 (Finset.mem_sdiff.mpr ⟨Pipeline.mem_restRefs_of main_arg6 (by decide) (by decide), by decide⟩)).trans (V_main_arg6 m c)
theorem arg_7 (r : PUnit × MemSt nD τ sig (Elt F)) (h : Pipeline.RDat.FramePostR cfg0 (rdat m) {main_v37_0} (V m) r) (c : Dev nD) : r.2.mem ((c.tc : Thread nD τ).loc main_arg7) = m ((c.tc : Thread nD τ).loc main_arg7) :=
  (h.arr_in c 10 rfl).trans (V_main_arg7 m c)
theorem arg_8 (r : PUnit × MemSt nD τ sig (Elt F)) (h : Pipeline.RDat.FramePostR cfg0 (rdat m) {main_v37_0} (V m) r) (c : Dev nD) : r.2.mem ((c.tc : Thread nD τ).loc main_arg8) = m ((c.tc : Thread nD τ).loc main_arg8) :=
  ((h c).2 main_arg8 (Finset.mem_sdiff.mpr ⟨Pipeline.mem_restRefs_of main_arg8 (by decide) (by decide), by decide⟩)).trans (V_main_arg8 m c)
theorem arg_9 (r : PUnit × MemSt nD τ sig (Elt F)) (h : Pipeline.RDat.FramePostR cfg0 (rdat m) {main_v37_0} (V m) r) (c : Dev nD) : r.2.mem ((c.tc : Thread nD τ).loc main_arg9) = m ((c.tc : Thread nD τ).loc main_arg9) :=
  (h.arr_in c 12 rfl).trans (V_main_arg9 m c)
theorem arg_10 (r : PUnit × MemSt nD τ sig (Elt F)) (h : Pipeline.RDat.FramePostR cfg0 (rdat m) {main_v37_0} (V m) r) (c : Dev nD) : r.2.mem ((c.tc : Thread nD τ).loc main_arg10) = m ((c.tc : Thread nD τ).loc main_arg10) :=
  ((h c).2 main_arg10 (Finset.mem_sdiff.mpr ⟨Pipeline.mem_restRefs_of main_arg10 (by decide) (by decide), by decide⟩)).trans (V_main_arg10 m c)
theorem arg_11 (r : PUnit × MemSt nD τ sig (Elt F)) (h : Pipeline.RDat.FramePostR cfg0 (rdat m) {main_v37_0} (V m) r) (c : Dev nD) : r.2.mem ((c.tc : Thread nD τ).loc main_arg11) = m ((c.tc : Thread nD τ).loc main_arg11) :=
  (h.arr_in c 14 rfl).trans (V_main_arg11 m c)
theorem arg_12 (r : PUnit × MemSt nD τ sig (Elt F)) (h : Pipeline.RDat.FramePostR cfg0 (rdat m) {main_v37_0} (V m) r) (c : Dev nD) : r.2.mem ((c.tc : Thread nD τ).loc main_arg12) = m ((c.tc : Thread nD τ).loc main_arg12) :=
  ((h c).2 main_arg12 (Finset.mem_sdiff.mpr ⟨Pipeline.mem_restRefs_of main_arg12 (by decide) (by decide), by decide⟩)).trans (V_main_arg12 m c)
theorem arg_13 (r : PUnit × MemSt nD τ sig (Elt F)) (h : Pipeline.RDat.FramePostR cfg0 (rdat m) {main_v37_0} (V m) r) (c : Dev nD) : r.2.mem ((c.tc : Thread nD τ).loc main_arg13) = m ((c.tc : Thread nD τ).loc main_arg13) :=
  ((h c).2 main_arg13 (Finset.mem_sdiff.mpr ⟨Pipeline.mem_restRefs_of main_arg13 (by decide) (by decide), by decide⟩)).trans (V_main_arg13 m c)
theorem arg_14 (r : PUnit × MemSt nD τ sig (Elt F)) (h : Pipeline.RDat.FramePostR cfg0 (rdat m) {main_v37_0} (V m) r) (c : Dev nD) : r.2.mem ((c.tc : Thread nD τ).loc main_arg14) = m ((c.tc : Thread nD τ).loc main_arg14) :=
  ((h c).2 main_arg14 (Finset.mem_sdiff.mpr ⟨Pipeline.mem_restRefs_of main_arg14 (by decide) (by decide), by decide⟩)).trans (V_main_arg14 m c)
theorem args_of (r : PUnit × MemSt nD τ sig (Elt F)) (h : Pipeline.RDat.FramePostR cfg0 (rdat m) {main_v37_0} (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨arg_0 m r h c, arg_1 m r h c, arg_2 m r h c, arg_3 m r h c, arg_4 m r h c, arg_5 m r h c, arg_6 m r h c, arg_7 m r h c, arg_8 m r h c, arg_9 m r h c, arg_10 m r h c, arg_11 m r h c, arg_12 m r h c, arg_13 m r h c, arg_14 m r h c⟩

/-- Every run ends, with the arguments as they were, the two results at `GO` and `GN`, and the counters at zero. -/
theorem run (g : Dev nD → PrngReg) : θ_run defs (onTc (τ := τ) (main (F := F))) ⟨m, fun _ => 0, g⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0)
    ∧ ∀ c : Dev nD, r.2.mem ((c.tc : Thread nD τ).loc main_v37_0) = GO m c ∧ r.2.mem ((c.tc : Thread nD τ).loc main_v37_1) = GN m c) :=
  (θ_run defs _ _).mono (fun r hh => ⟨⟨fun c => args_of m r hh.1.1 c, hh.2⟩, fun c => ⟨(hh.1.written c (Finset.mem_singleton_self _)).trans (Function.update_self _ _ _),
    norm_of m c _ ((hh.1.1 c).1 16)⟩⟩) (run_main m g)

end Launch

end Cert.Proof.I

end
-- ==== Proof.Spec.lean ====
/- The projections of the layer bank and the update of the memory, as the mathematics has them. -/
module

public import Idealize.ShloMosaic.PureOps.Ideal
public import Idealize.ShloMosaic.Lib.Pointwise

@[expose] public section

noncomputable section

namespace Cert.Proof.Spec

open Idealize.ShloMosaic

section Projection
variable (x : (⟨2, ![256, 1024]⟩ : Shape).Idx → EReal) (idx : (⟨2, ![256, 2]⟩ : Shape).Idx → BitVec 32) (p : (⟨2, ![256, 2]⟩ : Shape).Idx → EReal)
  (W : (⟨3, ![4, 1024, 1024]⟩ : Shape).Idx → EReal) (bias : (⟨2, ![4, 1024]⟩ : Shape).Idx → EReal)

/-- Every selected bank exists. -/
def Banks : Prop := ∀ b k, 0 ≤ (idx (ix2 b k)).toInt ∧ (idx (ix2 b k)).toInt < 4
/-- No selection weight is negative. -/
def Weights : Prop := ∀ b k, 0 ≤ p (ix2 b k)

/-- The bank that row `b` selects in place `k`. -/
def bk (b : Fin 256) (k : Fin 2) : Fin 4 := ⟨min (idx (ix2 b k)).toInt.toNat 3, by omega⟩
/-- Layer `n` of the bank at row `b` and column `j`. -/
def lay (b : Fin 256) (n : Fin 4) (j : Fin 1024) : EReal := (∑ k : Fin 1024, x (ix2 b k) * W (ix3 n k j)) + bias (ix2 n j)
/-- The selected layers combined by their weights. -/
def proj (b : Fin 256) (j : Fin 1024) : EReal := ∑ k : Fin 2, p (ix2 b k) * lay x W bias b (bk idx b k) j
end Projection

/-- One entry of the updated memory: old entry, key, value, write gate, erase gate, decay. -/
def memU (o k v w e d : EReal) : EReal := o * (1 - w * max e d) + ((k * v) * d) * w
/-- One entry of the updated normalizer. -/
def norU (o k w e d : EReal) : EReal := o * (1 - w * max e d) + (k * d) * w

section Results
variable (X : (⟨2, ![256, 1024]⟩ : Shape).Idx → EReal) (q : (⟨2, ![256, 2]⟩ : Shape).Idx → BitVec 32) (p : (⟨2, ![256, 2]⟩ : Shape).Idx → EReal)
  (W : Fin 4 → (⟨3, ![4, 1024, 1024]⟩ : Shape).Idx → EReal) (B : Fin 4 → (⟨2, ![4, 1024]⟩ : Shape).Idx → EReal)
  (A1 : (⟨4, ![256, 16, 64, 64]⟩ : Shape).Idx → EReal) (A2 : (⟨3, ![256, 16, 64]⟩ : Shape).Idx → EReal)
  (g : (⟨1, ![64]⟩ : Shape).Idx → EReal) (G : (⟨2, ![64, 64]⟩ : Shape).Idx → EReal)

/-- The projections' column of place `i` in the head that column `y` of pair `h` belongs to. -/
def hcol (h : Fin 8) (y : Fin 8192) (i : Fin 64) : Fin 1024 := ⟨h.val * 128 + y.val / 4096 * 64 + i.val, by omega⟩
/-- The row and the column of a head's matrix at column `y` of a pair. -/
def hrow (y : Fin 8192) : Fin 64 := ⟨y.val / 64 % 64, by omega⟩
def hlane (y : Fin 8192) : Fin 64 := ⟨y.val % 64, by omega⟩

/-- The updated memory. -/
def memS (b : Fin 256) (h : Fin 8) (y : Fin 8192) : EReal :=
  memU (A1 (ix4 b ⟨h.val * 2 + y.val / 4096, by omega⟩ (hrow y) (hlane y)))
    (max (proj X q p (W 0) (B 0) b (hcol h y (hrow y))) 0) (proj X q p (W 1) (B 1) b (hcol h y (hlane y)))
    (Ideal.logistic (proj X q p (W 2) (B 2) b (hcol h y (hrow y)))) (Ideal.logistic (proj X q p (W 3) (B 3) b (hcol h y (hrow y))))
    (Ideal.logistic (G (ix2 (hrow y) (hlane y))) * Ideal.logistic (g (ix1 (hrow y))))
/-- The updated normalizer. -/
def norS (b : Fin 256) (j : Fin 1024) : EReal :=
  norU (A2 (ix3 b ⟨j.val / 64, by omega⟩ ⟨j.val % 64, by omega⟩)) (max (proj X q p (W 0) (B 0) b j) 0)
    (Ideal.logistic (proj X q p (W 2) (B 2) b j)) (Ideal.logistic (proj X q p (W 3) (B 3) b j)) (Ideal.logistic (g (ix1 ⟨j.val % 64, by omega⟩)))
end Results

end Cert.Proof.Spec

end
-- ==== Proof.ProjVal.lean ====
/- The four projections that the kernel accumulates, entry by entry: the selected layers combined. -/
module

public import proofs.«01_k».proof.Proof.GenVal

@[expose] public section

set_option maxRecDepth 16384

noncomputable section

namespace Cert.Proof.I

open Cert.KernelIdeal Cert.KernelIdeal.Gen
open Idealize.ShloMosaic
open Idealize.ShloMosaic.TcCoe Idealize.ShloMosaic.Tactic
open Cert.Proof.Spec

/-- A row's weight on bank `n`, each of the two places asked in turn. -/
def wOn (x2 : S256x2.Idx → BitVec 32) (x3 : S256x2.Idx → EReal) (b : Fin 256) (n : ℕ) : EReal :=
  (0 + if x2 (ix2 b 0) = BitVec.ofNat 32 n then x3 (ix2 b 0) else 0) + if x2 (ix2 b 1) = BitVec.ofNat 32 n then x3 (ix2 b 1) else 0

theorem colK_at {α : Type} (k : Fin 2) (x : S256x2.Idx → α) (b : Fin 256) (z : Fin 1) : colK k x (ix2 b z) = x (ix2 b k) := by
  rw [ix2_eq_valueIdx b k]; rfl
theorem bankW_at {α : Type} (t : ℕ) (x : S4x1x1024.Idx → α) (z z' : Fin 1) (j : Fin 256) :
    bankW t x (ix3 z z' j) = x (ix3 ⟨t % 4, by omega⟩ 0 ⟨t / 4 % 4 * 256 + j.val, by omega⟩) := by
  rw [ix3_eq_valueIdx ⟨t % 4, _⟩]; rfl

section Block
variable (i : grid0.Coords) (x1 : S256x1024.Idx → EReal) (x2 : S256x2.Idx → BitVec 32) (x3 : S256x2.Idx → EReal) (w : S1x1024x256.Idx → EReal) (a : S4x1x1024.Idx → EReal)

/-- A projection point's contribution at one entry. -/
def cB (b : Fin 256) (j : Fin 256) : EReal :=
  wOn x2 x3 b ((i 0).val % 4) * ((∑ k : Fin 1024, x1 (ix2 b k) * w (ix3 0 k j)) + a (ix3 ⟨(i 0).val % 4, by omega⟩ 0 ⟨(i 0).val / 4 % 4 * 256 + j.val, by omega⟩))

theorem snV_at (b : Fin 256) (z : Fin 1) : snV (F := Ideal) i x2 x3 (ix2 b z) = wOn x2 x3 b ((i 0).val % 4) := by
  have sel : ∀ (u v : BitVec 32) (r r' : EReal), Scalar.select (IntOp.cmpi CmpIPredicate.eq u v) r r' = if u = v then r else r' := by
    intro u v r r'
    by_cases h : u = v
    · subst h; simp [Scalar.select, IntOp.cmpi]
    · have hb : (u == v) = false := beq_eq_false_iff_ne.mpr h
      simp [Scalar.select, IntOp.cmpi, hb, h]
  unfold snV sn0 k0_pay5 k0_pay6
  dsimp only
  pointwise
  show Scalar.select (IntOp.cmpi CmpIPredicate.eq (colK 0 x2 (ix2 b z)) (bankWord i)) (colK 0 x3 (ix2 b z)) 0 + Scalar.select (IntOp.cmpi CmpIPredicate.eq (colK 1 x2 (ix2 b z)) (bankWord i)) (colK 1 x3 (ix2 b z)) 0 = _
  rw [bankWord_eq, sel, sel, colK_at, colK_at, colK_at, colK_at]
  unfold wOn
  rw [zero_add]

/-- One layer's tile, weighted. -/
def tileV : FVec Ideal S256x256 .f32 := mulf (F := Ideal) (φ := .f32) (broadcastTo S256x256 (snV (F := Ideal) i x2 x3) broadcasts_S256x1_S256x256) (addf (F := Ideal) (φ := .f32) (matmul (F := Ideal) (φ₁ := .bf16) (φ₂ := .bf16) dot_S256x1024_S1024x256_S256x256_1_0_0_1_n_n none x1 (shapeCast S1024x256 w shapeCasts_S1x1024x256_S1024x256) (constant (F := Ideal) S256x256 .f32 0x00000000#32)) (broadcastTo S256x256 (shapeCast S1x256 (bankW (i 0).val a) shapeCasts_S1x1x256_S1x256) broadcasts_S1x256_S256x256))

theorem tileV_at (b : Fin 256) (j : Fin 256) : tileV i x1 x2 x3 w a (ix2 b j) = cB i x1 x2 x3 w a b j := by
  unfold tileV cB
  pointwise
  rw [snV_at, bankW_at]

theorem cV0_eq : cV0 (F := Ideal) i x1 x2 x3 w a = tileV i x1 x2 x3 w a := rfl
theorem cV1_eq : cV1 (F := Ideal) i x1 x2 x3 w a = tileV i x1 x2 x3 w a := rfl
theorem cV2_eq : cV2 (F := Ideal) i x1 x2 x3 w a = tileV i x1 x2 x3 w a := rfl
theorem cV3_eq : cV3 (F := Ideal) i x1 x2 x3 w a = tileV i x1 x2 x3 w a := rfl
end Block

theorem banks_alg (p0 p1 : EReal) (h0 : 0 ≤ p0) (h1 : 0 ≤ p1) (n0 n1 : Fin 4) (L : Fin 4 → EReal) :
    (((((0 + if n0 = 0 then p0 else 0) + if n1 = 0 then p1 else 0) * L 0 + ((0 + if n0 = 1 then p0 else 0) + if n1 = 1 then p1 else 0) * L 1)
      + ((0 + if n0 = 2 then p0 else 0) + if n1 = 2 then p1 else 0) * L 2) + ((0 + if n0 = 3 then p0 else 0) + if n1 = 3 then p1 else 0) * L 3)
      = p0 * L n0 + p1 * L n1 := by
  have hd : ∀ L : EReal, (p0 + p1) * L = p0 * L + p1 * L := fun L => EReal.right_distrib_of_nonneg h0 h1
  fin_cases n0 <;> fin_cases n1 <;> simp [hd, add_comm (p1 * _)]

/-- A word that names a bank equals the word of a number below four just when the bank is that number. -/
theorem word_iff (q : BitVec 32) (h : 0 ≤ q.toInt ∧ q.toInt < 4) (n : Fin 4) : q = BitVec.ofNat 32 n.val ↔ (⟨min q.toInt.toNat 3, by omega⟩ : Fin 4) = n := by
  have e := BitVec.ofInt_toInt (x := q)
  have c : q.toInt = 0 ∨ q.toInt = 1 ∨ q.toInt = 2 ∨ q.toInt = 3 := by omega
  rcases c with h | h | h | h <;> (rw [h] at e; subst e; revert n; decide)

variable (m : (ℓ : Loc nD τ sig) → Buf (Elt Ideal) ℓ) (c : Dev nD)

abbrev aX : S256x1024.Idx → EReal := m ((c.tc : Thread nD τ).loc main_arg0)
abbrev aI : S256x2.Idx → BitVec 32 := m ((c.tc : Thread nD τ).loc main_arg3)
abbrev aP : S256x2.Idx → EReal := m ((c.tc : Thread nD τ).loc main_arg4)
/-- The weights and the biases of the four projections: key, value, write, erase. -/
def aW : Fin 4 → S4x1024x1024.Idx → EReal
  | 0 => m ((c.tc : Thread nD τ).loc main_arg5)
  | 1 => m ((c.tc : Thread nD τ).loc main_arg7)
  | 2 => m ((c.tc : Thread nD τ).loc main_arg9)
  | 3 => m ((c.tc : Thread nD τ).loc main_arg11)
def aB : Fin 4 → S4x1024.Idx → EReal
  | 0 => m ((c.tc : Thread nD τ).loc main_arg6)
  | 1 => m ((c.tc : Thread nD τ).loc main_arg8)
  | 2 => m ((c.tc : Thread nD τ).loc main_arg10)
  | 3 => m ((c.tc : Thread nD τ).loc main_arg12)

/-- A projection point's contribution is its layer's entry under the row's weight. -/
theorem cB_lay (t : Fin cfg0.N) (ht : t.val < 16) (w : S1x1024x256.Idx → EReal) (a : S4x1x1024.Idx → EReal) (W : S4x1024x1024.Idx → EReal) (B : S4x1024.Idx → EReal)
    (hw : ∀ z k y, w (ix3 z k y) = W (ix3 ⟨t.val % 4, by omega⟩ k ⟨t.val / 4 * 256 + y.val, by omega⟩)) (ha : ∀ n z y, a (ix3 n z y) = B (ix2 n y))
    (b : Fin 256) (j : Fin 1024) (hj : j.val / 256 = t.val / 4) :
    cB (grid0.coords t) (iblk m c 0 t) (iblk m c 1 t) (iblk m c 2 t) w a b ⟨j.val % 256, Nat.mod_lt _ (by decide)⟩
      = wOn (aI m c) (aP m c) b (t.val % 4) * lay (aX m c) W B b ⟨t.val % 4, by omega⟩ j := by
  have ec : ((grid0.coords t) 0).val = t.val := coords_val t
  have ej : (⟨t.val / 4 * 256 + j.val % 256, by omega⟩ : Fin 1024) = j := Fin.ext (by show t.val / 4 * 256 + j.val % 256 = j.val; omega)
  have eb : (⟨t.val / 4 % 4 * 256 + j.val % 256, by omega⟩ : Fin 1024) = j := Fin.ext (by show t.val / 4 % 4 * 256 + j.val % 256 = j.val; omega)
  unfold cB wOn lay
  simp only [ha, hw, ib0, ib1, ib2, ec, ej, eb]
  rw [V_main_arg0 m c, V_main_arg3 m c, V_main_arg4 m c]

/-- The entry of a contribution at any column of its tile. -/
theorem CA_at (t : Fin cfg0.N) (ht : t.val < 16) (b : Fin 256) (p : Fin 4) (j : Fin 1024) (hj : j.val / 256 = t.val / 4) :
    CA m c t (ix2 b ⟨p.val * 1024 + j.val, by omega⟩) = wOn (aI m c) (aP m c) b (t.val % 4) * lay (aX m c) (aW m c p) (aB m c p) b ⟨t.val % 4, by omega⟩ j := by
  unfold CA cAt
  rw [cV0_eq, cV1_eq, cV2_eq, cV3_eq]
  have hi : (ValueIdx.ix2 ((ix2 b (⟨p.val * 1024 + j.val, by omega⟩ : Fin 4096)) 0) ⟨((ix2 b (⟨p.val * 1024 + j.val, by omega⟩ : Fin 4096)) 1).val % 256, Nat.mod_lt _ (by decide)⟩ : S256x256.Idx) = ix2 b ⟨j.val % 256, Nat.mod_lt _ (by decide)⟩ := by
    rw [ix2_eq_valueIdx b ⟨j.val % 256, _⟩]
    show ValueIdx.ix2 b _ = _
    congr 1
    exact Fin.ext (by show (p.val * 1024 + j.val) % 256 = j.val % 256; omega)
  rw [hi]
  have hv : ((ix2 b (⟨p.val * 1024 + j.val, by omega⟩ : Fin 4096)) 1).val = p.val * 1024 + j.val := rfl
  rw [hv]
  match p with
  | ⟨0, _⟩ =>
    rw [if_pos (by show 0 * 1024 + j.val < 1024; omega), tileV_at]
    exact cB_lay m c t ht _ _ _ _ (fun z k y => (ib8 m c t ht z k y).trans (by rw [V_main_arg5]; rfl)) (fun n z y => (ib9 m c t n z y).trans (V_b0 m c n z y)) b j hj
  | ⟨1, _⟩ =>
    rw [if_neg (by show ¬ 1 * 1024 + j.val < 1024; omega), if_pos (by show 1 * 1024 + j.val < 2048; omega), tileV_at]
    exact cB_lay m c t ht _ _ _ _ (fun z k y => (ib10 m c t ht z k y).trans (by rw [V_main_arg7]; rfl)) (fun n z y => (ib11 m c t n z y).trans (V_b1 m c n z y)) b j hj
  | ⟨2, _⟩ =>
    rw [if_neg (by show ¬ 2 * 1024 + j.val < 1024; omega), if_neg (by show ¬ 2 * 1024 + j.val < 2048; omega), if_pos (by show 2 * 1024 + j.val < 3072; omega), tileV_at]
    exact cB_lay m c t ht _ _ _ _ (fun z k y => (ib12 m c t ht z k y).trans (by rw [V_main_arg9]; rfl)) (fun n z y => (ib13 m c t n z y).trans (V_b2 m c n z y)) b j hj
  | ⟨3, _⟩ =>
    rw [if_neg (by show ¬ 3 * 1024 + j.val < 1024; omega), if_neg (by show ¬ 3 * 1024 + j.val < 2048; omega), if_neg (by show ¬ 3 * 1024 + j.val < 3072; omega), tileV_at]
    exact cB_lay m c t ht _ _ _ _ (fun z k y => (ib14 m c t ht z k y).trans (by rw [V_main_arg11]; rfl)) (fun n z y => (ib15 m c t n z y).trans (V_b3 m c n z y)) b j hj

/-- The accumulated projections are the selected layers combined. -/
theorem gFin_at (hq : Banks (aI m c)) (hp : Weights (aP m c)) (b : Fin 256) (p : Fin 4) (j : Fin 1024) :
    gFin m c (ix2 b ⟨p.val * 1024 + j.val, by omega⟩) = proj (aX m c) (aI m c) (aP m c) (aW m c p) (aB m c p) b j := by
  have hT : ((ix2 b (⟨p.val * 1024 + j.val, by omega⟩ : Fin 4096)) 1).val % 1024 / 256 = j.val / 256 := by
    show (p.val * 1024 + j.val) % 1024 / 256 = _; omega
  have hk : ∀ k : Fin 4, CA m c (pt (4 * (j.val / 256) + k.val)) (ix2 b ⟨p.val * 1024 + j.val, by omega⟩)
      = wOn (aI m c) (aP m c) b k.val * lay (aX m c) (aW m c p) (aB m c p) b k j := by
    intro k
    have hv : (pt (4 * (j.val / 256) + k.val)).val = 4 * (j.val / 256) + k.val := Nat.mod_eq_of_lt (by omega)
    have h4 : (pt (4 * (j.val / 256) + k.val)).val % 4 = k.val := by rw [hv]; omega
    rw [CA_at m c _ (by rw [hv]; omega) b p j (by rw [hv]; omega)]
    have : (⟨(pt (4 * (j.val / 256) + k.val)).val % 4, by omega⟩ : Fin 4) = k := Fin.ext h4
    rw [this, h4]
  have e : gFin m c (ix2 b ⟨p.val * 1024 + j.val, by omega⟩)
      = ((CA m c (pt (4 * (j.val / 256) + (0 : Fin 4).val)) (ix2 b ⟨p.val * 1024 + j.val, by omega⟩) + CA m c (pt (4 * (j.val / 256) + (1 : Fin 4).val)) (ix2 b ⟨p.val * 1024 + j.val, by omega⟩) : EReal)
        + CA m c (pt (4 * (j.val / 256) + (2 : Fin 4).val)) (ix2 b ⟨p.val * 1024 + j.val, by omega⟩)) + CA m c (pt (4 * (j.val / 256) + (3 : Fin 4).val)) (ix2 b ⟨p.val * 1024 + j.val, by omega⟩) := by
    simp only [gFin, gAcc, hT]
    rfl
  rw [e, hk 0, hk 1, hk 2, hk 3]
  unfold wOn proj bk
  rw [Fin.sum_univ_two]
  simp only [fun (k : Fin 2) (n : Fin 4) => word_iff _ (hq b k) n]
  exact banks_alg _ _ (hp b 0) (hp b 1) (bk (aI m c) b 0) (bk (aI m c) b 1) (fun n => lay (aX m c) (aW m c p) (aB m c p) b n j)

end Cert.Proof.I

end
-- ==== Proof.KerVal.lean ====
/- The kernel's results, entry by entry. -/
module

public import proofs.«01_k».proof.Proof.ProjVal
public import proofs.«01_k».proof.Proof.IdealLaunch

@[expose] public section

set_option maxRecDepth 16384

noncomputable section

namespace Cert.Proof.I

open Cert.KernelIdeal Cert.KernelIdeal.Gen
open Idealize.ShloMosaic
open Idealize.ShloMosaic.TcCoe Idealize.ShloMosaic.Tactic
open Cert.Proof.Spec

/-- A sum against a selection's column is the selected term. -/
theorem sum_sel (f : Fin 64 → EReal) (a : ℕ) (ha : a < 64) : (∑ i : Fin 64, f i * (if i.val = a then 1 else 0)) = f ⟨a, ha⟩ := by
  rw [Finset.sum_eq_single (⟨a, ha⟩ : Fin 64)]
  · rw [if_pos rfl, mul_one]
  · intro i _ hi
    rw [if_neg (fun h => hi (Fin.ext h)), mul_zero]
  · intro h; exact absurd (Finset.mem_univ _) h

theorem mul4 (k w d v : EReal) : k * w * d * v = k * v * d * w := by
  ac_rfl

section Cols
variable {α : Type}
theorem colP_at (h : ℕ) (p : Fin 4) (G : S256x4096.Idx → α) (b : Fin 256) (i : Fin 128) :
    colP h p G (ix2 b i) = G (ix2 b ⟨h % 8 * 128 + p.val * 1024 + i.val, by omega⟩) := by
  rw [ix2_eq_valueIdx b ⟨h % 8 * 128 + p.val * 1024 + i.val, _⟩]; rfl
theorem colN_at {R : ℕ} (h : ℕ) (x : (⟨2, ![R, 1024]⟩ : Shape).Idx → α) (b : Fin R) (i : Fin 128) :
    colN h x (ix2 b i) = x (ix2 b ⟨h % 8 * 128 + i.val, by omega⟩) := by
  rw [ix2_eq_valueIdx b ⟨h % 8 * 128 + i.val, _⟩]; rfl
theorem halfL_at (x : S256x8192.Idx → α) (b : Fin 256) (y : Fin 4096) : halfL x (ix2 b y) = x (ix2 b ⟨y.val, by omega⟩) := by
  rw [ix2_eq_valueIdx b (⟨y.val, _⟩ : Fin 8192)]; rfl
theorem halfR_at (x : S256x8192.Idx → α) (b : Fin 256) (y : Fin 4096) : halfR x (ix2 b y) = x (ix2 b ⟨4096 + y.val, by omega⟩) := by
  rw [ix2_eq_valueIdx b (⟨4096 + y.val, _⟩ : Fin 8192)]; rfl
end Cols

section Pair
variable (h : ℕ) (G : S256x4096.Idx → EReal) (x4 : S256x1024.Idx → EReal) (x5 : S1x1024.Idx → EReal) (x6 : S1x4096.Idx → EReal) (x7 x8 : S64x4096.Idx → EReal) (M : S256x8192.Idx → EReal)
  (h7 : ∀ i y, x7 (ix2 i y) = if i.val = y.val / 64 then 1 else 0) (h8 : ∀ i y, x8 (ix2 i y) = if i.val = y.val % 64 then 1 else 0)

/-- The projections' entry that a place of a head asks for. -/
def gAt (p : Fin 4) (b : Fin 256) (o i : ℕ) : EReal := if hi : o + i < 128 then G (ix2 b ⟨h % 8 * 128 + p.val * 1024 + (o + i), by omega⟩) else 0

theorem gAt_lo (p : Fin 4) (b : Fin 256) (i : Fin 64) (hi) : G (ix2 b ⟨h % 8 * 128 + p.val * 1024 + i.val, hi⟩) = gAt h G p b 0 i.val := by
  unfold gAt
  rw [dif_pos (by omega)]
  simp only [Nat.zero_add]
theorem gAt_hi (p : Fin 4) (b : Fin 256) (i : Fin 64) (hi) : G (ix2 b ⟨h % 8 * 128 + p.val * 1024 + (64 + i.val), hi⟩) = gAt h G p b 64 i.val := by
  unfold gAt
  rw [dif_pos (by omega)]
theorem gAt_all (p : Fin 4) (b : Fin 256) (i : Fin 128) (hi) : G (ix2 b ⟨h % 8 * 128 + p.val * 1024 + i.val, hi⟩) = gAt h G p b 0 i.val := by
  unfold gAt
  rw [dif_pos (by omega)]
  simp only [Nat.zero_add]

include h7 h8 in
theorem mL_at (b : Fin 256) (y : Fin 4096) : mL (F := Ideal) h G x6 x7 x8 M (ix2 b y)
    = M (ix2 b ⟨y.val, by omega⟩) * (1 - Ideal.logistic (gAt h G 2 b 0 (y.val / 64)) * max (Ideal.logistic (gAt h G 3 b 0 (y.val / 64))) (x6 (ix2 0 y)))
      + ((max (gAt h G 0 b 0 (y.val / 64)) 0 * Ideal.logistic (gAt h G 2 b 0 (y.val / 64))) * x6 (ix2 0 y)) * gAt h G 1 b 0 (y.val % 64) := by
  unfold mL k0_pay31 k0_pay30 k0_pay29 k0_pay28 k0_pay27 k0_pay26 k0_pay25 k0_pay24 k0_pay23 k0_pay22 k0_pay21
  dsimp only
  pointwise
  simp only [h7, h8, colP_at, halfL_at]
  have ha : y.val / 64 < 64 := by omega
  have hb : y.val % 64 < 64 := by omega
  simp only [gAt_lo]
  simp only [sum_sel (fun i : Fin 64 => Ideal.logistic (gAt h G 2 b 0 i.val)) _ ha, sum_sel (fun i : Fin 64 => Ideal.logistic (gAt h G 3 b 0 i.val)) _ ha,
    sum_sel (fun i : Fin 64 => max (gAt h G 0 b 0 i.val) 0 * Ideal.logistic (gAt h G 2 b 0 i.val)) _ ha, sum_sel (fun i : Fin 64 => gAt h G 1 b 0 i.val) _ hb]

include h7 h8 in
theorem mR_at (b : Fin 256) (y : Fin 4096) : mR (F := Ideal) h G x6 x7 x8 M (ix2 b y)
    = M (ix2 b ⟨4096 + y.val, by omega⟩) * (1 - Ideal.logistic (gAt h G 2 b 64 (y.val / 64)) * max (Ideal.logistic (gAt h G 3 b 64 (y.val / 64))) (x6 (ix2 0 y)))
      + ((max (gAt h G 0 b 64 (y.val / 64)) 0 * Ideal.logistic (gAt h G 2 b 64 (y.val / 64))) * x6 (ix2 0 y)) * gAt h G 1 b 64 (y.val % 64) := by
  unfold mR k0_pay35 k0_pay34 k0_pay33 k0_pay32 k0_pay26 k0_pay25 k0_pay24 k0_pay23 k0_pay22 k0_pay21
  dsimp only
  pointwise
  simp only [h7, h8, colP_at, halfR_at]
  have ha : y.val / 64 < 64 := by omega
  have hb : y.val % 64 < 64 := by omega
  simp only [gAt_hi]
  simp only [sum_sel (fun i : Fin 64 => Ideal.logistic (gAt h G 2 b 64 i.val)) _ ha, sum_sel (fun i : Fin 64 => Ideal.logistic (gAt h G 3 b 64 i.val)) _ ha,
    sum_sel (fun i : Fin 64 => max (gAt h G 0 b 64 i.val) 0 * Ideal.logistic (gAt h G 2 b 64 i.val)) _ ha, sum_sel (fun i : Fin 64 => gAt h G 1 b 64 i.val) _ hb]

theorem nVal_at (b : Fin 256) (i : Fin 128) : nVal (F := Ideal) h G x4 x5 (ix2 b i)
    = x4 (ix2 b ⟨h % 8 * 128 + i.val, by omega⟩) * (1 - Ideal.logistic (gAt h G 2 b 0 i.val) * max (Ideal.logistic (gAt h G 3 b 0 i.val)) (x5 (ix2 0 ⟨h % 8 * 128 + i.val, by omega⟩)))
      + (max (gAt h G 0 b 0 i.val) 0 * Ideal.logistic (gAt h G 2 b 0 i.val)) * x5 (ix2 0 ⟨h % 8 * 128 + i.val, by omega⟩) := by
  unfold nVal k0_pay4 k0_pay36 k0_pay23 k0_pay22 k0_pay21
  dsimp only
  pointwise
  simp only [colP_at, colN_at]
  simp only [gAt_all]
end Pair

section Final
variable (m : (ℓ : Loc nD τ sig) → Buf (Elt Ideal) ℓ) (c : Dev nD)

/-- A place's entry is its projection's. -/
theorem gAt_proj (hq : Banks (aI m c)) (hp : Weights (aP m c)) (h : Fin 8) (p : Fin 4) (b : Fin 256) (o i : ℕ) (j : Fin 1024) (hi : o + i < 128) (hj : j.val = h.val * 128 + (o + i)) :
    gAt h.val (gFin m c) p b o i = proj (aX m c) (aI m c) (aP m c) (aW m c p) (aB m c p) b j := by
  unfold gAt
  rw [dif_pos hi, ← gFin_at m c hq hp b p j]
  have : (⟨h.val % 8 * 128 + p.val * 1024 + (o + i), by omega⟩ : Fin 4096) = ⟨p.val * 1024 + j.val, by omega⟩ := Fin.ext (by show h.val % 8 * 128 + p.val * 1024 + (o + i) = p.val * 1024 + j.val; omega)
  rw [this]

/-- The kernel's memory is the mathematics'. -/
theorem GO_at (hq : Banks (aI m c)) (hp : Weights (aP m c)) (b : Fin 256) (h : Fin 8) (y : Fin 8192) :
    GO m c (ix3 b h y) = memS (aX m c) (aI m c) (aP m c) (aW m c) (aB m c) (m ((c.tc : Thread nD τ).loc main_arg1)) (m ((c.tc : Thread nD τ).loc main_arg13)) (m ((c.tc : Thread nD τ).loc main_arg14)) b h y := by
  have h7 : ∀ i y, iblk m c 6 (pt (16 + h.val)) (ix2 i y) = if i.val = y.val / 64 then (1 : EReal) else 0 := fun i y => (ib6 m c _ i y).trans (V_sel m c i y)
  have h8 : ∀ i y, iblk m c 7 (pt (16 + h.val)) (ix2 i y) = if i.val = y.val % 64 then (1 : EReal) else 0 := fun i y => (ib7 m c _ i y).trans (V_tile m c i y)
  obtain ⟨M, hMx, e⟩ : ∃ M : S256x8192.Idx → EReal, (∀ z : Fin 8192, M (ix2 b z) = V m c main_v0 (ix3 b h z)) ∧
      GO m c (ix3 b h y) = mVal (F := Ideal) h.val (gFin m c) (iblk m c 5 (pt (16 + h.val))) (iblk m c 6 (pt (16 + h.val))) (iblk m c 7 (pt (16 + h.val))) M (ValueIdx.ix2 b y) :=
    ⟨fun z => V m c main_v0 (ValueIdx.ix3 (z 0) h (z 1)), fun z => by rw [ix3_eq_valueIdx b h z]; rfl, by
      rw [← read_mblk c h (V m c main_v0)]; rfl⟩
  rw [e]
  unfold memS memU
  have er : (hrow y).val = y.val / 64 % 64 := rfl
  have el : (hlane y).val = y.val % 64 := rfl
  have hc : ∀ i, (hcol h y i).val = h.val * 128 + y.val / 4096 * 64 + i.val := fun _ => rfl
  by_cases hy : y.val < 4096
  · refine (dif_pos (show ((ValueIdx.ix2 b y : S256x8192.Idx) 1).val < 4096 from hy)).trans ?_
    refine (congrArg _ (ix2_eq_valueIdx b (⟨y.val, hy⟩ : Fin 4096)).symm).trans ((mL_at _ _ _ _ _ _ h7 h8 b ⟨y.val, hy⟩).trans ?_)
    have e1 : (⟨y.val / 64, by omega⟩ : Fin 64) = hrow y := Fin.ext (by rw [er]; show y.val / 64 = _; omega)
    have e2 : (⟨y.val % 64, by omega⟩ : Fin 64) = hlane y := rfl
    rw [hMx, ib5, V_m, V_md, gAt_proj m c hq hp h 0 b 0 (y.val / 64) (hcol h y (hrow y)) (by omega) (by rw [hc, er]; omega),
      gAt_proj m c hq hp h 2 b 0 (y.val / 64) (hcol h y (hrow y)) (by omega) (by rw [hc, er]; omega),
      gAt_proj m c hq hp h 3 b 0 (y.val / 64) (hcol h y (hrow y)) (by omega) (by rw [hc, er]; omega),
      gAt_proj m c hq hp h 1 b 0 (y.val % 64) (hcol h y (hlane y)) (by omega) (by rw [hc, el]; omega)]
    simp only [e1, e2]
    rw [mul4]
    rfl
  · refine (dif_neg (show ¬ ((ValueIdx.ix2 b y : S256x8192.Idx) 1).val < 4096 from hy)).trans ?_
    refine (congrArg _ (ix2_eq_valueIdx b (⟨y.val - 4096, by omega⟩ : Fin 4096)).symm).trans ((mR_at _ _ _ _ _ _ h7 h8 b ⟨y.val - 4096, by omega⟩).trans ?_)
    have e0 : (⟨4096 + (y.val - 4096), by omega⟩ : Fin 8192) = y := Fin.ext (by show 4096 + (y.val - 4096) = y.val; omega)
    have e1 : (⟨(y.val - 4096) / 64, by omega⟩ : Fin 64) = hrow y := Fin.ext (by rw [er]; show (y.val - 4096) / 64 = _; omega)
    have e2 : (⟨(y.val - 4096) % 64, by omega⟩ : Fin 64) = hlane y := Fin.ext (by rw [el]; show (y.val - 4096) % 64 = _; omega)
    have hMy : M (ix2 b ⟨4096 + (⟨y.val - 4096, by omega⟩ : Fin 4096).val, by omega⟩) = V m c main_v0 (ix3 b h y) := (congrArg (fun t => M (ix2 b t)) e0).trans (hMx y)
    rw [hMy, ib5, V_m, V_md, gAt_proj m c hq hp h 0 b 64 ((y.val - 4096) / 64) (hcol h y (hrow y)) (by omega) (by rw [hc, er]; omega),
      gAt_proj m c hq hp h 2 b 64 ((y.val - 4096) / 64) (hcol h y (hrow y)) (by omega) (by rw [hc, er]; omega),
      gAt_proj m c hq hp h 3 b 64 ((y.val - 4096) / 64) (hcol h y (hrow y)) (by omega) (by rw [hc, er]; omega),
      gAt_proj m c hq hp h 1 b 64 ((y.val - 4096) % 64) (hcol h y (hlane y)) (by omega) (by rw [hc, el]; omega)]
    simp only [e1, e2]
    rw [mul4]
    rfl

/-- The kernel's normalizer is the mathematics'. -/
theorem GN_at (hq : Banks (aI m c)) (hp : Weights (aP m c)) (b : Fin 256) (j : Fin 1024) :
    GN m c (ix2 b j) = norS (aX m c) (aI m c) (aP m c) (aW m c) (aB m c) (m ((c.tc : Thread nD τ).loc main_arg2)) (m ((c.tc : Thread nD τ).loc main_arg13)) b j := by
  have e : GN m c (ix2 b j) = nVal (F := Ideal) (j.val / 128) (gFin m c) (iblk m c 3 (pt (16 + j.val / 128))) (iblk m c 4 (pt (16 + j.val / 128))) (ix2 b ⟨j.val % 128, by omega⟩) := by
    rw [ix2_eq_valueIdx b (⟨j.val % 128, _⟩ : Fin 128)]; rfl
  have ej : (⟨j.val / 128 % 8 * 128 + j.val % 128, by omega⟩ : Fin 1024) = j := Fin.ext (by show j.val / 128 % 8 * 128 + j.val % 128 = j.val; omega)
  have hg : ∀ p : Fin 4, gAt (j.val / 128) (gFin m c) p b 0 (j.val % 128) = proj (aX m c) (aI m c) (aP m c) (aW m c p) (aB m c p) b j :=
    fun p => gAt_proj m c hq hp ⟨j.val / 128, by omega⟩ p b 0 (j.val % 128) j (by omega) (by show j.val = j.val / 128 * 128 + (0 + j.val % 128); omega)
  rw [e, nVal_at]
  simp only [hg, ej, ib3, ib4]
  rw [V_n, V_nd]
  unfold norS norU
  rw [mul_right_comm (max _ 0)]
end Final

end Cert.Proof.I

end
-- ==== Proof.RefVal.lean ====
/- The reference's results, entry by entry. -/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic

open Cert.Proof.Spec

abbrev GD := gather_S256x4x1024_S256x2x1_S256x2x1024_2_1_0_0_1_2_111024

/-- The gather reads the row's selected bank, taken signed and clamped. -/
theorem gather_at (x : S256x4x1024.Idx → EReal) (q : IVec S256x2x1 32) (b : Fin 256) (k : Fin 2) (j : Fin 1024) :
    Host.gather gather_S256x4x1024_S256x2x1_S256x2x1024_2_1_0_0_1_2_111024 x q (ix3 b k j)
      = x (ix3 b ⟨min (q (ix3 b k ⟨0, by decide⟩)).toInt.toNat 3, by omega⟩ j) := by
  unfold Host.gather
  congr 1
  funext a
  refine Fin.ext ?_
  have ha : a = 0 ∨ a = 1 ∨ a = 2 := by revert a; decide
  show GD.start (ix3 b k j) q a + GD.batchCoord (ix3 b k j) a + GD.offCoord (ix3 b k j) a = _
  rcases ha with rfl | rfl | rfl
  ·
    rw [GatherDims.start_batching _ _ _ _ (List.mem_singleton.mpr rfl), GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GD.operandBatchingDims from List.mem_singleton.mpr rfl)]
    rfl
  ·
    rw [GatherDims.batchCoord_eq_zero _ _ _ (fun h => by revert h; decide), GatherDims.offCoord_eq_zero _ _ _ (fun h => ((GatherDims.mem_sKept _ _).mp h).1 (List.mem_singleton.mpr rfl))]
    simp only [Nat.add_zero]
    unfold GatherDims.start
    rw [dif_pos (show (1 : Fin 3) ∈ GD.startIndexMap from List.mem_singleton.mpr rfl)]
    have hsi : GD.siIdx (ix3 b k j) ⟨List.idxOf (1 : Fin 3) GD.startIndexMap, List.idxOf_lt_length_iff.2 (List.mem_singleton.mpr rfl)⟩ = ix3 b k ⟨0, by decide⟩ := by
      funext e; refine Fin.ext ?_
      match e with
      | ⟨0, _⟩ => rfl
      | ⟨1, _⟩ => rfl
      | ⟨2, _⟩ => rfl
    erw [hsi]
    rfl
  ·
    rw [GatherDims.batchCoord_eq_zero _ _ _ (fun h => by revert h; decide)]
    unfold GatherDims.start GatherDims.offCoord
    rw [dif_neg (by decide), dif_pos (by decide)]
    show 0 + 0 + j.val = j.val
    omega

/-- The gathered and combined layers, as the reference's lines compute them. -/
def selR (x : S256x1024.Idx → EReal) (q : IVec S256x2 32) (p : S256x2.Idx → EReal) (W : S4x1024x1024.Idx → EReal) (bias : S4x1024.Idx → EReal) : FVec Ideal S256x1024 .f32 :=
  have c : IVec S256x2x1 32 := broadcastInDim S256x2x1 ![0, 1] bcast_S256x2_S256x2x1_0_1 q
  have c4 : IVec S256x2x1 32 := select (cmpi .slt c (broadcastInDim S256x2x1 ![] bcast_S_S256x2x1 (constantI S_ 32 0#32))) (addi c (broadcastInDim S256x2x1 ![] bcast_S_S256x2x1 (constantI S_ 32 4#32))) c
  Host.dotGeneral (F := Ideal) (φ₁ := .f32) (φ₂ := .f32) dot_S256x2_S256x2x1024_S256x1024_1_1_n_2_0_0 none p (select (broadcastInDim S256x2x1024 ![0, 1] bcast_S256x2_S256x2x1024_0_1 (Host.reduce IntOp.andi (andi (cmpi .sge c4 (broadcastInDim S256x2x1 ![] bcast_S_S256x2x1 (constantI S_ 32 0#32))) (cmpi .sle c4 (broadcastInDim S256x2x1 ![0, 1, 2] bcast_S1x1x1_S256x2x1_0_1_2 (broadcastInDim S1x1x1 ![2] bcast_S1_S1x1x1_2 (constantI S1 32 3#32))))) (constantI S_ 1 1#1) reducesTo_S256x2x1_S256x2_d2 h_S_)) (Host.gather gather_S256x4x1024_S256x2x1_S256x2x1024_2_1_0_0_1_2_111024 (addf (F := Ideal) (φ := .f32) (Host.dotGeneral (F := Ideal) (φ₁ := .f32) (φ₂ := .f32) dot_S256x1024_S4x1024x1024_S256x4x1024_1_1_0_02_n_n none x W) (broadcastInDim S256x4x1024 ![0, 1, 2] bcast_S1x4x1024_S256x4x1024_0_1_2 (broadcastInDim S1x4x1024 ![1, 2] bcast_S4x1024_S1x4x1024_1_2 bias))) c4) (broadcastInDim S256x2x1024 ![] bcast_S_S256x2x1024 (constant (F := Ideal) S_ .f32 0x7FC00000#32)))

/-- A word that names a bank is its own wrapped index and passes the range test. -/
theorem word_in (q : BitVec 32) (h : 0 ≤ q.toInt ∧ q.toInt < 4) :
    Scalar.select (IntOp.cmpi CmpIPredicate.slt q 0#32) (IntOp.addi q 4#32) q = q ∧ IntOp.andi (IntOp.cmpi CmpIPredicate.sge q 0#32) (IntOp.cmpi CmpIPredicate.sle q 3#32) = 1#1 := by
  have e := BitVec.ofInt_toInt (x := q)
  have c : q.toInt = 0 ∨ q.toInt = 1 ∨ q.toInt = 2 ∨ q.toInt = 3 := by omega
  rcases c with h | h | h | h <;> (rw [h] at e; subst e; decide)

theorem fold_one : Finset.fold IntOp.andi (1#1) (fun _ : Fin 1 => 1#1) Finset.univ = 1#1 := by decide

/-- The reference's combination of gathered layers is the projection. -/
theorem selR_at (x q p W bias) (hq : Banks q) (b : Fin 256) (j : Fin 1024) : selR x q p W bias (ix2 b j) = proj x q p W bias b j := by
  unfold selR
  dsimp only
  pointwise
  unfold proj
  refine Finset.sum_congr rfl fun k _ => ?_
  obtain ⟨e1, e2⟩ := word_in (q (ix2 b k)) (hq b k)
  rw [e1]
  simp only [e2]
  rw [gather_at]
  pointwise
  simp only [e1]
  rw [fold_one]
  rfl

end Cert.Proof.R

end
-- ==== Proof.RefFin.lean ====
/- The reference's results as the mathematics has them. -/
module

public import proofs.«01_k».proof.Proof.RefVal

@[expose] public section

set_option maxRecDepth 16384

noncomputable section

namespace Cert.Proof.R

open Cert.ReferenceIdeal Cert.ReferenceIdeal.Gen Cert.ReferenceIdeal.Value
open Idealize.ShloMosaic
open Cert.Proof.Spec

variable (V0 : Valuation τ sig (Elt Ideal))

/-- The arguments as the reference holds them. -/
abbrev rX : S256x1024.Idx → EReal := V0 (Proc.devRef .tc main_arg0)
abbrev rI : S256x2.Idx → BitVec 32 := V0 (Proc.devRef .tc main_arg3)
abbrev rP : S256x2.Idx → EReal := V0 (Proc.devRef .tc main_arg4)
def rW : Fin 4 → S4x1024x1024.Idx → EReal
  | 0 => V0 (Proc.devRef .tc main_arg5)
  | 1 => V0 (Proc.devRef .tc main_arg7)
  | 2 => V0 (Proc.devRef .tc main_arg9)
  | 3 => V0 (Proc.devRef .tc main_arg11)
def rB : Fin 4 → S4x1024.Idx → EReal
  | 0 => V0 (Proc.devRef .tc main_arg6)
  | 1 => V0 (Proc.devRef .tc main_arg8)
  | 2 => V0 (Proc.devRef .tc main_arg10)
  | 3 => V0 (Proc.devRef .tc main_arg12)

/-- The logistic function as the reference spells it. -/
def sg (s : EReal) : EReal := Ideal.div 1 (1 + Ideal.exp (-s))
theorem sg_eq (s : EReal) : sg s = Ideal.logistic s := rfl

variable (hq : Banks (rI V0))

/-- One projection of the reference, heads and lanes apart. -/
def pr (p : Fin 4) : FVec Ideal S256x16x64 .f32 := shapeCast S256x16x64 (selR (rX V0) (rI V0) (rP V0) (rW V0 p) (rB V0 p)) shapeCasts_S256x1024_S256x16x64

include hq in
theorem pr_at (p : Fin 4) (b : Fin 256) (a : Fin 16) (i : Fin 64) : pr V0 p (ix3 b a i) = proj (rX V0) (rI V0) (rP V0) (rW V0 p) (rB V0 p) b ⟨a.val * 64 + i.val, by omega⟩ := by
  unfold pr
  pointwise
  rw [selR_at _ _ _ _ _ hq]

theorem v16_eq : res_main_v16 V0 = maximumf (F := Ideal) (φ := .f32) (pr V0 0) (broadcastInDim S256x16x64 ![] bcast_S_S256x16x64 (constant (F := Ideal) S_ .f32 0x00000000#32)) := rfl
theorem v45_eq : res_main_v45 V0 = Host.divf (F := Ideal) (φ := .f32) (broadcastInDim S256x16x64 ![] bcast_S_S256x16x64 (constant (F := Ideal) S_ .f32 0x3F800000#32)) (addf (F := Ideal) (φ := .f32) (broadcastInDim S256x16x64 ![] bcast_S_S256x16x64 (constant (F := Ideal) S_ .f32 0x3F800000#32)) (Host.exp (Host.negf (pr V0 2)))) := rfl
theorem v60_eq : res_main_v60 V0 = Host.divf (F := Ideal) (φ := .f32) (broadcastInDim S256x16x64 ![] bcast_S_S256x16x64 (constant (F := Ideal) S_ .f32 0x3F800000#32)) (addf (F := Ideal) (φ := .f32) (broadcastInDim S256x16x64 ![] bcast_S_S256x16x64 (constant (F := Ideal) S_ .f32 0x3F800000#32)) (Host.exp (Host.negf (pr V0 3)))) := rfl

theorem v16_at (b : Fin 256) (a : Fin 16) (i : Fin 64) : res_main_v16 V0 (ix3 b a i) = max (pr V0 0 (ix3 b a i)) 0 := by
  rw [v16_eq]; pointwise
theorem v45_at (b : Fin 256) (a : Fin 16) (i : Fin 64) : res_main_v45 V0 (ix3 b a i) = Ideal.logistic (pr V0 2 (ix3 b a i)) := by
  rw [v45_eq]; pointwise; rfl
theorem v60_at (b : Fin 256) (a : Fin 16) (i : Fin 64) : res_main_v60 V0 (ix3 b a i) = Ideal.logistic (pr V0 3 (ix3 b a i)) := by
  rw [v60_eq]; pointwise; rfl
theorem v22_at (i : Fin 64) : res_main_v22 V0 (ix1 i) = Ideal.logistic (V0 (Proc.devRef .tc main_arg13) (ix1 i)) := by
  unfold res_main_v22; pointwise; rfl
theorem v31_at (i k : Fin 64) : res_main_v31 V0 (ix2 i k) = Ideal.logistic (V0 (Proc.devRef .tc main_arg14) (ix2 i k)) * Ideal.logistic (V0 (Proc.devRef .tc main_arg13) (ix1 i)) := by
  unfold res_main_v31; pointwise; rw [v22_at]; rfl

include hq in
/-- The reference's normalizer. -/
theorem v95_at (b : Fin 256) (j : Fin 1024) : (val2 V0 (Proc.devRef .tc main_v95) : S256x1024.Idx → EReal) (ix2 b j)
    = norS (rX V0) (rI V0) (rP V0) (rW V0) (rB V0) (V0 (Proc.devRef .tc main_arg2)) (V0 (Proc.devRef .tc main_arg13)) b j := by
  refine (congrFun (val2_main_v95 V0) (ix2 b j)).trans ?_
  pointwise
  rw [v16_at, v45_at, v60_at, v22_at, pr_at V0 hq, pr_at V0 hq, pr_at V0 hq]
  have ej : (⟨j.val / 64 * 64 + j.val % 64, by omega⟩ : Fin 1024) = j := Fin.ext (by show j.val / 64 * 64 + j.val % 64 = j.val; omega)
  simp only [ej]
  rfl

/-- The reference's memory line, its value projection named. -/
theorem v94_eq : (val2 V0 (Proc.devRef .tc main_v94) : S256x8x8192.Idx → EReal) = shapeCast S256x8x8192 (addf (F := Ideal) (φ := .f32) (mulf (F := Ideal) (φ := .f32) (V0 (Proc.devRef .tc main_arg1)) (subf (broadcastInDim S256x16x64x64 ![] bcast_S_S256x16x64x64 (constant (F := Ideal) S_ .f32 0x3F800000#32)) (mulf (F := Ideal) (φ := .f32) (broadcastInDim S256x16x64x64 ![0, 1, 2, 3] bcast_S256x16x64x1_S256x16x64x64_0_1_2_3 (res_main_v46 V0)) (maximumf (F := Ideal) (φ := .f32) (broadcastInDim S256x16x64x64 ![0, 1, 2, 3] bcast_S256x16x64x1_S256x16x64x64_0_1_2_3 (broadcastInDim S256x16x64x1 ![0, 1, 2] bcast_S256x16x64_S256x16x64x1_0_1_2 (res_main_v60 V0))) (broadcastInDim S256x16x64x64 ![0, 1, 2, 3] bcast_S1x1x64x64_S256x16x64x64_0_1_2_3 (broadcastInDim S1x1x64x64 ![2, 3] bcast_S64x64_S1x1x64x64_2_3 (res_main_v31 V0))))))) (mulf (F := Ideal) (φ := .f32) (mulf (F := Ideal) (φ := .f32) (mulf (F := Ideal) (φ := .f32) (broadcastInDim S256x16x64x64 ![0, 1, 2, 3] bcast_S256x16x64x1_S256x16x64x64_0_1_2_3 (broadcastInDim S256x16x64x1 ![0, 1, 2] bcast_S256x16x64_S256x16x64x1_0_1_2 (res_main_v16 V0))) (broadcastInDim S256x16x64x64 ![0, 1, 2, 3] bcast_S256x16x1x64_S256x16x64x64_0_1_2_3 (broadcastInDim S256x16x1x64 ![0, 1, 3] bcast_S256x16x64_S256x16x1x64_0_1_3 (pr V0 1)))) (broadcastInDim S256x16x64x64 ![0, 1, 2, 3] bcast_S1x1x64x64_S256x16x64x64_0_1_2_3 (broadcastInDim S1x1x64x64 ![2, 3] bcast_S64x64_S1x1x64x64_2_3 (res_main_v31 V0)))) (broadcastInDim S256x16x64x64 ![0, 1, 2, 3] bcast_S256x16x64x1_S256x16x64x64_0_1_2_3 (res_main_v46 V0)))) shapeCasts_S256x16x64x64_S256x8x8192 :=
  (val2_main_v94 V0).trans rfl

include hq in
/-- The reference's memory. -/
theorem v94_at (b : Fin 256) (h : Fin 8) (y : Fin 8192) : (val2 V0 (Proc.devRef .tc main_v94) : S256x8x8192.Idx → EReal) (ix3 b h y)
    = memS (rX V0) (rI V0) (rP V0) (rW V0) (rB V0) (V0 (Proc.devRef .tc main_arg1)) (V0 (Proc.devRef .tc main_arg13)) (V0 (Proc.devRef .tc main_arg14)) b h y := by
  rw [v94_eq]
  unfold res_main_v46
  pointwise
  have hk : ∀ (p : Fin 4) (i : Fin 64), pr V0 p (ix3 b ⟨h.val * 2 + y.val / 4096, by omega⟩ i) = proj (rX V0) (rI V0) (rP V0) (rW V0 p) (rB V0 p) b (hcol h y i) :=
    fun p i => (pr_at V0 hq p b _ i).trans (congrArg _ (Fin.ext (by show (h.val * 2 + y.val / 4096) * 64 + i.val = h.val * 128 + y.val / 4096 * 64 + i.val; omega)))
  rw [v16_at, v45_at, v60_at, v31_at]
  simp only [hk]
  rfl

end Cert.Proof.R

end
-- ==== Proof.PreVal.lean ====
/- What the precondition says of the selected banks and their weights. -/
module

public import proofs.«01_k».proof.Pre_banks_chosen
public import proofs.«01_k».proof.Proof.Spec

@[expose] public section

noncomputable section

namespace Cert.Proof.P

open Cert.Pre_banks_chosen
open Idealize.ShloMosaic
open Cert.Proof.Spec

/-- The predicate's one shape relation. -/
theorem facts : Facts where
  bcast_S_S256x2 := by decide

/-- A word that passes both tests names a bank. -/
theorem word_ok (q : BitVec 32) (z : BitVec 1) (h : IntOp.andi (IntOp.andi (IntOp.cmpi CmpIPredicate.sge q 0#32) (IntOp.cmpi CmpIPredicate.slt q 4#32)) z = 1#1) :
    (0 ≤ q.toInt ∧ q.toInt < 4) ∧ z = 1#1 := by
  have e : ∀ a b z : BitVec 1, IntOp.andi (IntOp.andi a b) z = 1#1 → a = 1#1 ∧ b = 1#1 ∧ z = 1#1 := by decide
  obtain ⟨h1, h2, h3⟩ := e _ _ _ h
  have hb : ∀ b : Bool, BitVec.ofBool b = 1#1 → b = true := by decide
  have h1 := hb _ h1
  have h2 := hb _ h2
  have h1 : (0#32).sle q = true := h1
  have h2 : q.slt 4#32 = true := h2
  rw [BitVec.sle_iff_toInt_le] at h1
  rw [BitVec.slt_iff_toInt_lt] at h2
  exact ⟨⟨h1, h2⟩, h3⟩

section
variable [Facts]
variable (x0 : FVec Ideal S256x1024 .f32) (x1 : FVec Ideal S256x16x64x64 .f32) (x2 : FVec Ideal S256x16x64 .f32) (q : IVec S256x2 32) (p : FVec Ideal S256x2 .f32)
  (x5 : FVec Ideal S4x1024x1024 .f32) (x6 : FVec Ideal S4x1024 .f32) (x7 : FVec Ideal S4x1024x1024 .f32) (x8 : FVec Ideal S4x1024 .f32)
  (x9 : FVec Ideal S4x1024x1024 .f32) (x10 : FVec Ideal S4x1024 .f32) (x11 : FVec Ideal S4x1024x1024 .f32) (x12 : FVec Ideal S4x1024 .f32)
  (x13 : FVec Ideal S64 .f32) (x14 : FVec Ideal S64x64 .f32)

/-- Under the precondition every selected bank exists and no weight is negative. -/
theorem of_pre (h : fn (F := Ideal) x0 x1 x2 q p x5 x6 x7 x8 x9 x10 x11 x12 x13 x14 = fun _ => 1#1) : Banks q ∧ Weights p := by
  have k : ∀ (b : Fin 256) (k : Fin 2), (0 ≤ (q (ix2 b k)).toInt ∧ (q (ix2 b k)).toInt < 4) ∧ (0 : EReal) ≤ p (ix2 b k) := by
    intro b k
    have e := congrFun h (ix2 b k)
    have v : fn (F := Ideal) x0 x1 x2 q p x5 x6 x7 x8 x9 x10 x11 x12 x13 x14 (ix2 b k)
        = IntOp.andi (IntOp.andi (IntOp.cmpi CmpIPredicate.sge (q (ix2 b k)) 0#32) (IntOp.cmpi CmpIPredicate.slt (q (ix2 b k)) 4#32)) (Ideal.cmp CmpFPredicate.oge (p (ix2 b k)) 0) := by
      unfold fn
      dsimp only
      pointwise
    obtain ⟨h1, h2⟩ := word_ok _ _ (v.symm.trans e)
    refine ⟨h1, ?_⟩
    have hb : ∀ b : Bool, BitVec.ofBool b = 1#1 → b = true := by decide
    have h2 := hb _ h2
    simpa using h2
  exact ⟨fun b j => (k b j).1, fun b j => (k b j).2⟩
end

end Cert.Proof.P

end
-- ==== Proof.lean ====
/- The claims assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.IdealLaunch
public import proofs.«01_k».proof.Proof.KernelLaunch
public import proofs.«01_k».proof.Proof.KerVal
public import proofs.«01_k».proof.Proof.RefFin
public import proofs.«01_k».proof.Proof.PreVal
public import Idealize.ShloMosaic.Adequacy
public import Idealize.ShloMosaic.Init

@[expose] public section

noncomputable section

namespace Cert.Proof

open Idealize.ShloMosaic Idealize.SL.Sem Idealize.ShloMosaic.StableHlo

/-- Every run of the kernel ends, its arguments as they were and every counter at zero. -/
theorem kernel_frame : Cert.quiescent_Kernel := fun m g _ =>
  (θ_run (Cert.Kernel.defs (F := Bits)) _ _).mono (fun _ h => h.1) (Cert.Proof.K.run (F := Bits) m g)
/-- The same of the kernel over the extended reals. -/
theorem kernelIdeal_frame : Cert.quiescent_KernelIdeal := fun m g _ =>
  (θ_run (Cert.KernelIdeal.defs (F := Ideal)) _ _).mono (fun _ h => h.1) (Cert.Proof.I.run (F := Ideal) m g)
/-- The same of the reference, which declares no counter. -/
theorem referenceIdeal_frame : Cert.quiescent_ReferenceIdeal := fun m g _ =>
  (θ_run (Cert.ReferenceIdeal.defs (F := Ideal)) _ _).mono (fun r h => ⟨fun c => (h c).2.2, sem_eq_zero_of_no_sems (by decide) r.2⟩)
    (Cert.ReferenceIdeal.Value.run (F := Ideal) m g)

section Values
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- The two programs' arguments agree. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

variable (h : Same m m' c) (hq : Spec.Banks (I.aI m c)) (hp : Spec.Weights (I.aP m c))

include h in
theorem same_W : R.rW (launchContents m' c) = I.aW m c := by
  obtain ⟨h0, h1, h2, h3, h4, h5, h6, h7, h8, h9, h10, h11, h12, h13, h14⟩ := h
  funext p
  match p with
  | 0 => exact h5
  | 1 => exact h7
  | 2 => exact h9
  | 3 => exact h11
include h in
theorem same_B : R.rB (launchContents m' c) = I.aB m c := by
  obtain ⟨h0, h1, h2, h3, h4, h5, h6, h7, h8, h9, h10, h11, h12, h13, h14⟩ := h
  funext p
  match p with
  | 0 => exact h6
  | 1 => exact h8
  | 2 => exact h10
  | 3 => exact h12

include h hq hp in
/-- The two updated memories are one. -/
theorem memory_eq : (Cert.ReferenceIdeal.Value.val2 (launchContents m' c) (Proc.devRef .tc Cert.ReferenceIdeal.main_v94) : Cert.ReferenceIdeal.S256x8x8192.Idx → EReal) = I.GO m c := by
  have eW := same_W m m' c h
  have eB := same_B m m' c h
  obtain ⟨h0, h1, h2, h3, h4, h5, h6, h7, h8, h9, h10, h11, h12, h13, h14⟩ := h
  have eX : R.rX (launchContents m' c) = I.aX m c := h0
  have eI : R.rI (launchContents m' c) = I.aI m c := h3
  have eP : R.rP (launchContents m' c) = I.aP m c := h4
  have e1 : (launchContents m' c (Proc.devRef .tc Cert.ReferenceIdeal.main_arg1) : Cert.ReferenceIdeal.S256x16x64x64.Idx → EReal) = m ((c.tc : Thread Cert.KernelIdeal.nD Cert.KernelIdeal.τ).loc Cert.KernelIdeal.main_arg1) := h1
  have e13 : (launchContents m' c (Proc.devRef .tc Cert.ReferenceIdeal.main_arg13) : Cert.ReferenceIdeal.S64.Idx → EReal) = m ((c.tc : Thread Cert.KernelIdeal.nD Cert.KernelIdeal.τ).loc Cert.KernelIdeal.main_arg13) := h13
  have e14 : (launchContents m' c (Proc.devRef .tc Cert.ReferenceIdeal.main_arg14) : Cert.ReferenceIdeal.S64x64.Idx → EReal) = m ((c.tc : Thread Cert.KernelIdeal.nD Cert.KernelIdeal.τ).loc Cert.KernelIdeal.main_arg14) := h14
  funext j
  have ej : j = ix3 (j 0) (j 1) (j 2) := by funext a; fin_cases a <;> rfl
  rw [ej]
  refine (R.v94_at (launchContents m' c) (by rw [eI]; exact hq) (j 0) (j 1) (j 2)).trans (Eq.trans ?_ (I.GO_at m c hq hp (j 0) (j 1) (j 2)).symm)
  rw [eX, eI, eP, eW, eB, e1, e13, e14]

include h hq hp in
/-- The two updated normalizers are one. -/
theorem normalizer_eq : (Cert.ReferenceIdeal.Value.val2 (launchContents m' c) (Proc.devRef .tc Cert.ReferenceIdeal.main_v95) : Cert.ReferenceIdeal.S256x1024.Idx → EReal) = I.GN m c := by
  have eW := same_W m m' c h
  have eB := same_B m m' c h
  obtain ⟨h0, h1, h2, h3, h4, h5, h6, h7, h8, h9, h10, h11, h12, h13, h14⟩ := h
  have eX : R.rX (launchContents m' c) = I.aX m c := h0
  have eI : R.rI (launchContents m' c) = I.aI m c := h3
  have eP : R.rP (launchContents m' c) = I.aP m c := h4
  have e2 : (launchContents m' c (Proc.devRef .tc Cert.ReferenceIdeal.main_arg2) : Cert.ReferenceIdeal.S256x16x64.Idx → EReal) = m ((c.tc : Thread Cert.KernelIdeal.nD Cert.KernelIdeal.τ).loc Cert.KernelIdeal.main_arg2) := h2
  have e13 : (launchContents m' c (Proc.devRef .tc Cert.ReferenceIdeal.main_arg13) : Cert.ReferenceIdeal.S64.Idx → EReal) = m ((c.tc : Thread Cert.KernelIdeal.nD Cert.KernelIdeal.τ).loc Cert.KernelIdeal.main_arg13) := h13
  funext j
  have ej : j = ix2 (j 0) (j 1) := by funext a; fin_cases a <;> rfl
  rw [ej]
  refine (R.v95_at (launchContents m' c) (by rw [eI]; exact hq) (j 0) (j 1)).trans (Eq.trans ?_ (I.GN_at m c hq hp (j 0) (j 1)).symm)
  rw [eX, eI, eP, eW, eB, e2, e13]
end Values

/-- From equal arguments, under the precondition, the kernel and the reference end in equal results. -/
theorem results_equal [Cert.Pre_banks_chosen.Facts] : Cert.algebraic_KernelIdeal_ReferenceIdeal_pre_banks_chosen := by
  intro m g m' g' hpre hsame
  refine ⟨fun c => I.GO m c, fun c => I.GN m c, ?_, ?_⟩
  · exact (θ_run (Cert.KernelIdeal.defs (F := Ideal)) _ _).mono (fun _ h c => ⟨(h.2 c).1, (h.2 c).2, h.1.1 c⟩) (I.run (F := Ideal) m g)
  · refine (θ_run (Cert.ReferenceIdeal.defs (F := Ideal)) _ _).mono (fun _ h c => ?_) (Cert.ReferenceIdeal.Value.run (F := Ideal) m' g')
    obtain ⟨hq, hp⟩ := P.of_pre _ _ _ _ _ _ _ _ _ _ _ _ _ _ _ (hpre c)
    exact ⟨(h c).1.trans ((Cert.ReferenceIdeal.Value.val2_main_v94 (launchContents m' c)).symm.trans (memory_eq m m' c (hsame c) hq hp)),
      (h c).2.1.trans ((Cert.ReferenceIdeal.Value.val2_main_v95 (launchContents m' c)).symm.trans (normalizer_eq m m' c (hsame c) hq hp)), (h c).2.2⟩

theorem claim : Cert.Claim :=
  ⟨Cert.Kernel.Gen.facts, Cert.KernelIdeal.Gen.facts, Cert.ReferenceIdeal.Gen.facts, P.facts, kernel_frame, kernelIdeal_frame, fun m g _ => kernelIdeal_frame m g trivial,
    referenceIdeal_frame, fun m g _ => referenceIdeal_frame m g trivial, trivial, @results_equal P.facts⟩

end Cert.Proof

end
